-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S4 : Shape := ⟨1, ![4]⟩
abbrev S1x1024x1024 : Shape := ⟨3, ![1, 1024, 1024]⟩
abbrev S1 : Shape := ⟨1, ![1]⟩
abbrev S1x1x1 : Shape := ⟨3, ![1, 1, 1]⟩
abbrev S4096x128 : Shape := ⟨2, ![4096, 128]⟩
abbrev S1024x256 : Shape := ⟨2, ![1024, 256]⟩
abbrev S1024x128 : Shape := ⟨2, ![1024, 128]⟩
abbrev S524288 : Shape := ⟨1, ![524288]⟩
abbrev S32x512x128 : Shape := ⟨3, ![32, 512, 128]⟩
abbrev S512x128 : Shape := ⟨2, ![512, 128]⟩
abbrev S16384 : Shape := ⟨1, ![16384]⟩
abbrev S_ : Shape := ⟨0, ![]⟩
abbrev S16 : Shape := ⟨1, ![16]⟩
abbrev S8192 : Shape := ⟨1, ![8192]⟩
abbrev S1x16 : Shape := ⟨2, ![1, 16]⟩
abbrev S1x512x128 : Shape := ⟨3, ![1, 512, 128]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x256x256 : Shape := ⟨3, ![1, 256, 256]⟩
abbrev S1x256x1 : Shape := ⟨3, ![1, 256, 1]⟩
abbrev S1x1x256 : Shape := ⟨3, ![1, 1, 256]⟩

abbrev nBuf : Table → Nat
  | .hbm => 8
  | .local .tc .vmem => 10
  | .local .tc .smem => 3
  | .local .scVector .vmem => 2
  | _ => 0

abbrev bufTy : (tb : Table) → Fin (nBuf tb) → BufTy
  | .hbm, ⟨0, _⟩ => ⟨S1024x1024, .f32⟩
  | .hbm, ⟨1, _⟩ => ⟨S1024x1024, .f32⟩
  | .hbm, ⟨2, _⟩ => ⟨S4, .f32⟩
  | .hbm, ⟨3, _⟩ => ⟨S4096x128, .i32⟩
  | .hbm, ⟨4, _⟩ => ⟨S524288, .i32⟩
  | .hbm, ⟨5, _⟩ => ⟨S32x512x128, .f32⟩
  | .hbm, ⟨6, _⟩ => ⟨S1, .f32⟩
  | .hbm, ⟨7, _⟩ => ⟨S_, .f32⟩
  | .local .tc .vmem, ⟨0, _⟩ => ⟨S1024x1024, .f32⟩
  | .local .tc .vmem, ⟨1, _⟩ => ⟨S1024x1024, .f32⟩
  | .local .tc .vmem, ⟨2, _⟩ => ⟨S1024x256, .f32⟩
  | .local .tc .vmem, ⟨3, _⟩ => ⟨S1024x256, .f32⟩
  | .local .tc .vmem, ⟨4, _⟩ => ⟨S1024x256, .f32⟩
  | .local .tc .vmem, ⟨5, _⟩ => ⟨S1024x256, .f32⟩
  | .local .tc .vmem, ⟨6, _⟩ => ⟨S1024x128, .i32⟩
  | .local .tc .vmem, ⟨7, _⟩ => ⟨S1024x128, .i32⟩
  | .local .tc .vmem, ⟨8, _⟩ => ⟨S32x512x128, .f32⟩
  | .local .tc .vmem, ⟨9, _⟩ => ⟨S512x128, .f32⟩
  | .local .tc .smem, ⟨0, _⟩ => ⟨S4, .f32⟩
  | .local .tc .smem, ⟨1, _⟩ => ⟨S4, .f32⟩
  | .local .tc .smem, ⟨2, _⟩ => ⟨S1, .f32⟩
  | .local .scVector .vmem, ⟨0, _⟩ => ⟨S512x128, .f32⟩
  | .local .scVector .vmem, ⟨1, _⟩ => ⟨S16384, .i32⟩
  | _, _ => ⟨S1024x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg1_0 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc3_stg0_0 : Ref sig .tc := ⟨.vmem, 8, rfl⟩
abbrev cc3_scratch0 : Ref sig .tc := ⟨.vmem, 9, rfl⟩
abbrev cc0_stg2_0 : Ref sig .tc := ⟨.smem, 0, rfl⟩
abbrev cc1_stg0_0 : Ref sig .tc := ⟨.smem, 1, rfl⟩
abbrev cc3_stg1_0 : Ref sig .tc := ⟨.smem, 2, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc3_sem0_0 : DmaSem sig := 13
abbrev cc3_sem1_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![4], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_off1 (i : grid2.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let v5 : BitVec 32 := Scalar.addi v2 c0_i32
  ![v5.toNat]
@[reducible] def k2_t1_loop : Scf.Loop 32 :=
  let c0_i32_5 : BitVec 32 := 0#32
  let c512_i32 : BitVec 32 := 512#32
  let v15 : BitVec 32 := Scalar.addi c0_i32_5 c512_i32
  let c1_i32 : BitVec 32 := 1#32
  ⟨c0_i32_5, v15, c1_i32⟩
def k2_off2 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v29 : Index := Scalar.indexCast v28
  let c0 : Index := 0#32
  ![v29.toNat, 0]
def k2_off3 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v31 : Index := Scalar.indexCast v28
  let c16 : Index := 16#32
  ![v31.toNat, 16]
def k2_off4 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v33 : Index := Scalar.indexCast v28
  let c32 : Index := 32#32
  ![v33.toNat, 32]
def k2_off5 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v35 : Index := Scalar.indexCast v28
  let c48 : Index := 48#32
  ![v35.toNat, 48]
def k2_off6 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v37 : Index := Scalar.indexCast v28
  let c64 : Index := 64#32
  ![v37.toNat, 64]
def k2_off7 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v39 : Index := Scalar.indexCast v28
  let c80 : Index := 80#32
  ![v39.toNat, 80]
def k2_off8 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v41 : Index := Scalar.indexCast v28
  let c96 : Index := 96#32
  ![v41.toNat, 96]
def k2_off9 (k2_t1 : Fin k2_t1_loop.trips) : Fin 2 → Nat :=
  let c0_i32_17 : BitVec 32 := 0#32
  let c0_i32_5 : BitVec 32 := 0#32
  let c1_i32 : BitVec 32 := 1#32
  let arg8 : BitVec 32 := Scf.iv c0_i32_5 c1_i32 k2_t1
  let c1_i32_16 : BitVec 32 := 1#32
  let v27 : BitVec 32 := Scalar.muli arg8 c1_i32_16
  let v28 : BitVec 32 := Scalar.addi c0_i32_17 v27
  let v43 : Index := Scalar.indexCast v28
  let c112 : Index := 112#32
  ![v43.toNat, 112]
@[reducible] def k2_t2_loop : Scf.Loop 32 :=
  let c0_i32_13 : BitVec 32 := 0#32
  let c256_i32 : BitVec 32 := 256#32
  let v26 : BitVec 32 := Scalar.addi c0_i32_13 c256_i32
  let c1_i32_14 : BitVec 32 := 1#32
  ⟨c0_i32_13, v26, c1_i32_14⟩
def k2_off10 (k2_t2 : Fin k2_t2_loop.trips) : Fin 1 → Nat :=
  let c0_i32_16 : BitVec 32 := 0#32
  let c0_i32_13 : BitVec 32 := 0#32
  let c1_i32_14 : BitVec 32 := 1#32
  let arg8 : BitVec 32 := Scf.iv c0_i32_13 c1_i32_14 k2_t2
  let c64_i32 : BitVec 32 := 64#32
  let v27 : BitVec 32 := Scalar.muli arg8 c64_i32
  let v28 : BitVec 32 := Scalar.addi c0_i32_16 v27
  let c0_i32_17 : BitVec 32 := 0#32
  let v29 : BitVec 32 := Scalar.addi v28 c0_i32_17
  let v30 : Index := Scalar.indexCast v29
  ![v30.toNat]

def k2_chk1 (v37 : IVec S16 32) (v39 : IVec S16 32) : Prop :=
  (∀ a x, ((![v37, v39] : Fin 2 → IVec S16 32) a x).toNat < S512x128.size a)
theorem k2_idx1_inb : ∀ (v37 : IVec S16 32) (v39 : IVec S16 32) (k2_hw1 : k2_chk1 v37 v39), ∀ a x, ((![v37, v39] : Fin 2 → IVec S16 32) a x).toNat < S512x128.size a := fun v37 v39 k2_hw1 => k2_hw1

def k2_chk2 (v41 : IVec S16 32) (v43 : IVec S16 32) : Prop :=
  (∀ a x, ((![v41, v43] : Fin 2 → IVec S16 32) a x).toNat < S512x128.size a)
theorem k2_idx2_inb : ∀ (v41 : IVec S16 32) (v43 : IVec S16 32) (k2_hw2 : k2_chk2 v41 v43), ∀ a x, ((![v41, v43] : Fin 2 → IVec S16 32) a x).toNat < S512x128.size a := fun v41 v43 k2_hw2 => k2_hw2
def k2_off11 (k2_t2 : Fin k2_t2_loop.trips) : Fin 1 → Nat :=
  let c0_i32_16 : BitVec 32 := 0#32
  let c0_i32_13 : BitVec 32 := 0#32
  let c1_i32_14 : BitVec 32 := 1#32
  let arg8 : BitVec 32 := Scf.iv c0_i32_13 c1_i32_14 k2_t2
  let c64_i32 : BitVec 32 := 64#32
  let v27 : BitVec 32 := Scalar.muli arg8 c64_i32
  let v28 : BitVec 32 := Scalar.addi c0_i32_16 v27
  let c16_i32_21 : BitVec 32 := 16#32
  let v44 : BitVec 32 := Scalar.addi v28 c16_i32_21
  let v45 : Index := Scalar.indexCast v44
  ![v45.toNat]

def k2_chk3 (v52 : IVec S16 32) (v54 : IVec S16 32) : Prop :=
  (∀ a x, ((![v52, v54] : Fin 2 → IVec S16 32) a x).toNat < S512x128.size a)
theorem k2_idx3_inb : ∀ (v52 : IVec S16 32) (v54 : IVec S16 32) (k2_hw3 : k2_chk3 v52 v54), ∀ a x, ((![v52, v54] : Fin 2 → IVec S16 32) a x).toNat < S512x128.size a := fun v52 v54 k2_hw3 => k2_hw3

def k2_chk4 (v56 : IVec S16 32) (v58 : IVec S16 32) : Prop :=
  (∀ a x, ((![v56, v58] : Fin 2 → IVec S16 32) a x).toNat < S512x128.size a)
theorem k2_idx4_inb : ∀ (v56 : IVec S16 32) (v58 : IVec S16 32) (k2_hw4 : k2_chk4 v56 v58), ∀ a x, ((![v56, v58] : Fin 2 → IVec S16 32) a x).toNat < S512x128.size a := fun v56 v58 k2_hw4 => k2_hw4
def k2_off12 (k2_t2 : Fin k2_t2_loop.trips) : Fin 1 → Nat :=
  let c0_i32_16 : BitVec 32 := 0#32
  let c0_i32_13 : BitVec 32 := 0#32
  let c1_i32_14 : BitVec 32 := 1#32
  let arg8 : BitVec 32 := Scf.iv c0_i32_13 c1_i32_14 k2_t2
  let c64_i32 : BitVec 32 := 64#32
  let v27 : BitVec 32 := Scalar.muli arg8 c64_i32
  let v28 : BitVec 32 := Scalar.addi c0_i32_16 v27
  let c32_i32 : BitVec 32 := 32#32
  let v59 : BitVec 32 := Scalar.addi v28 c32_i32
  let v60 : Index := Scalar.indexCast v59
  ![v60.toNat]

def k2_chk5 (v67 : IVec S16 32) (v69 : IVec S16 32) : Prop :=
  (∀ a x, ((![v67, v69] : Fin 2 → IVec S16 32) a x).toNat < S512x128.size a)
theorem k2_idx5_inb : ∀ (v67 : IVec S16 32) (v69 : IVec S16 32) (k2_hw5 : k2_chk5 v67 v69), ∀ a x, ((![v67, v69] : Fin 2 → IVec S16 32) a x).toNat < S512x128.size a := fun v67 v69 k2_hw5 => k2_hw5

def k2_chk6 (v71 : IVec S16 32) (v73 : IVec S16 32) : Prop :=
  (∀ a x, ((![v71, v73] : Fin 2 → IVec S16 32) a x).toNat < S512x128.size a)
theorem k2_idx6_inb : ∀ (v71 : IVec S16 32) (v73 : IVec S16 32) (k2_hw6 : k2_chk6 v71 v73), ∀ a x, ((![v71, v73] : Fin 2 → IVec S16 32) a x).toNat < S512x128.size a := fun v71 v73 k2_hw6 => k2_hw6
def k2_off13 (k2_t2 : Fin k2_t2_loop.trips) : Fin 1 → Nat :=
  let c0_i32_16 : BitVec 32 := 0#32
  let c0_i32_13 : BitVec 32 := 0#32
  let c1_i32_14 : BitVec 32 := 1#32
  let arg8 : BitVec 32 := Scf.iv c0_i32_13 c1_i32_14 k2_t2
  let c64_i32 : BitVec 32 := 64#32
  let v27 : BitVec 32 := Scalar.muli arg8 c64_i32
  let v28 : BitVec 32 := Scalar.addi c0_i32_16 v27
  let c48_i32 : BitVec 32 := 48#32
  let v74 : BitVec 32 := Scalar.addi v28 c48_i32
  let v75 : Index := Scalar.indexCast v74
  ![v75.toNat]

def k2_chk7 (v82 : IVec S16 32) (v84 : IVec S16 32) : Prop :=
  (∀ a x, ((![v82, v84] : Fin 2 → IVec S16 32) a x).toNat < S512x128.size a)
theorem k2_idx7_inb : ∀ (v82 : IVec S16 32) (v84 : IVec S16 32) (k2_hw7 : k2_chk7 v82 v84), ∀ a x, ((![v82, v84] : Fin 2 → IVec S16 32) a x).toNat < S512x128.size a := fun v82 v84 k2_hw7 => k2_hw7

def k2_chk8 (v86 : IVec S16 32) (v88 : IVec S16 32) : Prop :=
  (∀ a x, ((![v86, v88] : Fin 2 → IVec S16 32) a x).toNat < S512x128.size a)
theorem k2_idx8_inb : ∀ (v86 : IVec S16 32) (v88 : IVec S16 32) (k2_hw8 : k2_chk8 v86 v88), ∀ a x, ((![v86, v88] : Fin 2 → IVec S16 32) a x).toNat < S512x128.size a := fun v86 v88 k2_hw8 => k2_hw8
def k2_off14 (i : grid2.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_16_r0 : BitVec 32 := 0#32
  let c0_i32_17_r0 : BitVec 32 := 0#32
  ![v1.toNat, 0, 0]
abbrev grid3 : Pipeline.Grid := ⟨1, ![1], ![false]⟩

def k3_cond3 (i : grid3.Coords) : BitVec 1 :=
  let arg0 : BitVec 32 := BitVec.ofNat 32 (i 0).val
  let c0_i32_5 : BitVec 32 := 0#32
  let v9 : BitVec 1 := Scalar.cmpi .eq arg0 c0_i32_5
  let v10 : BitVec 32 := Scalar.extui v9
  let c0_i32_6 : BitVec 32 := 0#32
  let v11 : BitVec 1 := Scalar.cmpi .ne v10 c0_i32_6
  v11

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

abbrev stage3_0 : Fin 1 → Memref sig .tc .vmem S32x512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .smem S1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩
abbrev S1048576 : Shape := ⟨1, ![1048576]⟩
abbrev S256x256 : Shape := ⟨2, ![256, 256]⟩
abbrev S1048576x1 : Shape := ⟨2, ![1048576, 1]⟩
abbrev S1048576x2 : Shape := ⟨2, ![1048576, 2]⟩
abbrev S256 : Shape := ⟨1, ![256]⟩
abbrev S256x1 : Shape := ⟨2, ![256, 1]⟩
abbrev S1x256 : Shape := ⟨2, ![1, 256]⟩

abbrev nBuf : Space → Nat
  | .hbm => 172
  | .vmem => 0
  | .smem => 0
  | _ => 0

abbrev hbmTy0_0 (i : Nat) : BufTy := match i % 128 with
  | 0 => ⟨S1024x1024, .f32⟩
  | 1 => ⟨S1024x1024, .f32⟩
  | 2 => ⟨S_, .f32⟩
  | 3 => ⟨S_, .f32⟩
  | 4 => ⟨S1024x1024, .f32⟩
  | 5 => ⟨S1024x1024, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1024x1024, .f32⟩
  | 14 => ⟨S1024x1024, .f32⟩
  | 15 => ⟨S_, .f32⟩
  | 16 => ⟨S_, .f32⟩
  | 17 => ⟨S1024x1024, .f32⟩
  | 18 => ⟨S1024x1024, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S1024x1024, .f32⟩
  | 27 => ⟨S1024x1024, .f32⟩
  | 28 => ⟨S_, .f32⟩
  | 29 => ⟨S1024x1024, .f32⟩
  | 30 => ⟨S1024x1024, .f32⟩
  | 31 => ⟨S1024x1024, .f32⟩
  | 32 => ⟨S1024x1024, .i32⟩
  | 33 => ⟨S_, .f32⟩
  | 34 => ⟨S1024x1024, .f32⟩
  | 35 => ⟨S1024x1024, .f32⟩
  | 36 => ⟨S1024x1024, .f32⟩
  | 37 => ⟨S1024x1024, .i32⟩
  | 38 => ⟨S_, .i32⟩
  | 39 => ⟨S_, .i32⟩
  | 40 => ⟨S_, .i32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S_, .i32⟩
  | 47 => ⟨S_, .i32⟩
  | 48 => ⟨S_, .i32⟩
  | 49 => ⟨S1024x1024, .i32⟩
  | 50 => ⟨S1024x1024, .i32⟩
  | 51 => ⟨S_, .i32⟩
  | 52 => ⟨S1024x1024, .i32⟩
  | 53 => ⟨S1024x1024, .i32⟩
  | 54 => ⟨S1048576, .i32⟩
  | 55 => ⟨S1048576, .i32⟩
  | 56 => ⟨S_, .f32⟩
  | 57 => ⟨S256x256, .f32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S1048576x1, .i32⟩
  | 73 => ⟨S1048576x1, .i32⟩
  | 74 => ⟨S1048576x2, .i32⟩
  | 75 => ⟨S_, .f32⟩
  | 76 => ⟨S1048576, .f32⟩
  | 77 => ⟨S256x256, .f32⟩
  | 78 => ⟨S_, .f32⟩
  | 79 => ⟨S256, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S_, .f32⟩
  | 89 => ⟨S1048576, .f32⟩
  | 90 => ⟨S256, .f32⟩
  | 91 => ⟨S_, .f32⟩
  | 92 => ⟨S256, .f32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S1048576x1, .i32⟩
  | 101 => ⟨S_, .f32⟩
  | 102 => ⟨S1048576, .f32⟩
  | 103 => ⟨S256, .f32⟩
  | 104 => ⟨S_, .f32⟩
  | 105 => ⟨S256x256, .f32⟩
  | 106 => ⟨S256x256, .f32⟩
  | 107 => ⟨S_, .f32⟩
  | 108 => ⟨S256, .f32⟩
  | 109 => ⟨S256, .f32⟩
  | 110 => ⟨S_, .f32⟩
  | 111 => ⟨S256, .f32⟩
  | 112 => ⟨S256, .f32⟩
  | 113 => ⟨S256x1, .f32⟩
  | 114 => ⟨S1x256, .f32⟩
  | 115 => ⟨S256x256, .f32⟩
  | 116 => ⟨S256x256, .f32⟩
  | 117 => ⟨S256x256, .f32⟩
  | 118 => ⟨S_, .f32⟩
  | 119 => ⟨S256x256, .f32⟩
  | 120 => ⟨S256x256, .i1⟩
  | 121 => ⟨S256x1, .f32⟩
  | 122 => ⟨S_, .f32⟩
  | 123 => ⟨S256x1, .f32⟩
  | 124 => ⟨S256x1, .i1⟩
  | 125 => ⟨S256x256, .i1⟩
  | 126 => ⟨S256x256, .i1⟩
  | 127 => ⟨S1x256, .f32⟩
  | _ => ⟨S1024x1024, .f32⟩

abbrev hbmTy0_1 (i : Nat) : BufTy := match i % 128 with
  | 0 => ⟨S_, .f32⟩
  | 1 => ⟨S1x256, .f32⟩
  | 2 => ⟨S1x256, .i1⟩
  | 3 => ⟨S256x256, .i1⟩
  | 4 => ⟨S256x256, .i1⟩
  | 5 => ⟨S_, .f32⟩
  | 6 => ⟨S_, .f32⟩
  | 7 => ⟨S256x256, .f32⟩
  | 8 => ⟨S256x256, .f32⟩
  | 9 => ⟨S256x256, .f32⟩
  | 10 => ⟨S_, .f32⟩
  | 11 => ⟨S_, .f32⟩
  | 12 => ⟨S256x256, .f32⟩
  | 13 => ⟨S256x256, .f32⟩
  | 14 => ⟨S256x256, .f32⟩
  | 15 => ⟨S256x256, .f32⟩
  | 16 => ⟨S_, .f32⟩
  | 17 => ⟨S_, .f32⟩
  | 18 => ⟨S256x256, .f32⟩
  | 19 => ⟨S256x256, .f32⟩
  | 20 => ⟨S_, .f32⟩
  | 21 => ⟨S_, .f32⟩
  | 22 => ⟨S_, .f32⟩
  | 23 => ⟨S256, .f32⟩
  | 24 => ⟨S256, .f32⟩
  | 25 => ⟨S256, .f32⟩
  | 26 => ⟨S256, .f32⟩
  | 27 => ⟨S_, .f32⟩
  | 28 => ⟨S_, .f32⟩
  | 29 => ⟨S_, .f32⟩
  | 30 => ⟨S_, .f32⟩
  | 31 => ⟨S256, .f32⟩
  | 32 => ⟨S256, .f32⟩
  | 33 => ⟨S256, .f32⟩
  | 34 => ⟨S256, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_c_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_c_10 : Ref sig .tc := ⟨.hbm, 46, rfl⟩
abbrev main_c_11 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_12 : Ref sig .tc := ⟨.hbm, 56, rfl⟩
abbrev main_v30 : Ref sig .tc := ⟨.hbm, 57, rfl⟩
abbrev main_c_13 : Ref sig .tc := ⟨.hbm, 58, rfl⟩
abbrev main_v31 : Ref sig .tc := ⟨.hbm, 59, rfl⟩
abbrev main_v32 : Ref sig .tc := ⟨.hbm, 60, rfl⟩
abbrev main_c_14 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_15 : Ref sig .tc := ⟨.hbm, 65, rfl⟩
abbrev main_v36 : Ref sig .tc := ⟨.hbm, 66, rfl⟩
abbrev main_v37 : Ref sig .tc := ⟨.hbm, 67, rfl⟩
abbrev main_c_16 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_17 : Ref sig .tc := ⟨.hbm, 75, rfl⟩
abbrev main_v44 : Ref sig .tc := ⟨.hbm, 76, rfl⟩
abbrev main_v45 : Ref sig .tc := ⟨.hbm, 77, rfl⟩
abbrev main_cst_18 : Ref sig .tc := ⟨.hbm, 78, rfl⟩
abbrev main_v46 : Ref sig .tc := ⟨.hbm, 79, rfl⟩
abbrev main_c_19 : Ref sig .tc := ⟨.hbm, 80, rfl⟩
abbrev main_v47 : Ref sig .tc := ⟨.hbm, 81, rfl⟩
abbrev main_v48 : Ref sig .tc := ⟨.hbm, 82, rfl⟩
abbrev main_c_20 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_21 : Ref sig .tc := ⟨.hbm, 88, rfl⟩
abbrev main_v53 : Ref sig .tc := ⟨.hbm, 89, rfl⟩
abbrev main_v54 : Ref sig .tc := ⟨.hbm, 90, rfl⟩
abbrev main_cst_22 : Ref sig .tc := ⟨.hbm, 91, rfl⟩
abbrev main_v55 : Ref sig .tc := ⟨.hbm, 92, rfl⟩
abbrev main_c_23 : Ref sig .tc := ⟨.hbm, 93, rfl⟩
abbrev main_v56 : Ref sig .tc := ⟨.hbm, 94, rfl⟩
abbrev main_v57 : Ref sig .tc := ⟨.hbm, 95, rfl⟩
abbrev main_c_24 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_25 : Ref sig .tc := ⟨.hbm, 101, rfl⟩
abbrev main_v62 : Ref sig .tc := ⟨.hbm, 102, rfl⟩
abbrev main_v63 : Ref sig .tc := ⟨.hbm, 103, rfl⟩
abbrev main_cst_26 : Ref sig .tc := ⟨.hbm, 104, rfl⟩
abbrev main_v64 : Ref sig .tc := ⟨.hbm, 105, rfl⟩
abbrev main_v65 : Ref sig .tc := ⟨.hbm, 106, rfl⟩
abbrev main_cst_27 : Ref sig .tc := ⟨.hbm, 107, rfl⟩
abbrev main_v66 : Ref sig .tc := ⟨.hbm, 108, rfl⟩
abbrev main_v67 : Ref sig .tc := ⟨.hbm, 109, rfl⟩
abbrev main_cst_28 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_29 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_30 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_31 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_32 : Ref sig .tc := ⟨.hbm, 133, rfl⟩
abbrev main_call2_v0 : Ref sig .tc := ⟨.hbm, 134, rfl⟩
abbrev main_call2_v1 : Ref sig .tc := ⟨.hbm, 135, rfl⟩
abbrev main_v87 : Ref sig .tc := ⟨.hbm, 136, rfl⟩
abbrev main_v88 : Ref sig .tc := ⟨.hbm, 137, rfl⟩
abbrev main_cst_33 : Ref sig .tc := ⟨.hbm, 138, rfl⟩
abbrev main_call3_v0 : Ref sig .tc := ⟨.hbm, 139, rfl⟩
abbrev main_call3_v1 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_34 : Ref sig .tc := ⟨.hbm, 144, rfl⟩
abbrev main_call4_v0 : Ref sig .tc := ⟨.hbm, 145, rfl⟩
abbrev main_call4_v1 : Ref sig .tc := ⟨.hbm, 146, rfl⟩
abbrev main_v92 : Ref sig .tc := ⟨.hbm, 147, rfl⟩
abbrev main_cst_35 : Ref sig .tc := ⟨.hbm, 148, rfl⟩
abbrev main_v93 : Ref sig .tc := ⟨.hbm, 149, rfl⟩
abbrev main_cst_36 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_37 : Ref sig .tc := ⟨.hbm, 155, rfl⟩
abbrev main_v98 : Ref sig .tc := ⟨.hbm, 156, rfl⟩
abbrev main_v99 : Ref sig .tc := ⟨.hbm, 157, rfl⟩
abbrev main_cst_38 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_39 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_40 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩

abbrev nD : Nat := 1
abbrev τ : Topo := Topo.v7x

variable {F : FTy → Type} [FloatOps F]
-- ==== Proof.Ideal.Setup.lean ====
/-
  The launch of the kernel's program, written once over any float instance: its labels, configuration and
  body table, the resource algebra (the handshakes' rounds, the pipelines' rounds, the transfers' counters), and the
  abbreviations the other modules share.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 3) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts: distinct semaphores, none of them scoped, no shared buffer owned by a sequencer. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) Unit
abbrev UU : Type := UH × (UB × Counters)

local notation "𝕄" => MT nD τ sig (HIx 1) (Elt F) ℕ UU ℕ

/-- The handshakes' rounds: the left factor. -/
abbrev EH : Emb UH (MT nD τ sig (HIx 1) (Elt F) ℕ UU ℕ) := embL

/-- The pipelines' rounds: the left factor of the right factor. -/
def EP : Emb UB (MT nD τ sig (HIx 1) (Elt F) ℕ UU ℕ) :=
  ((Emb.inl : Emb UB (UB × Counters)).trans (Emb.inr : Emb (UB × Counters) UU)).trans (uEmb : UEmb UU (MT nD τ sig (HIx 1) (Elt F) ℕ UU ℕ)).toEmb

instance EP_landsIn : (EP (F := F)).LandsIn (upEmb : UEmb _ 𝕄) := by unfold EP; infer_instance

/-- Memref `M`'s buffer on core `c`: its contents' type, and it held whole at `f`. -/
abbrev Bf (c : Dev nD) {sp : Space} {S : Shape} {e : EltTy} (M : Memref sig .tc sp S e) : Type := Buf (Elt F) (M.view.loc (c.tc : Thread nD τ))
abbrev pt (c : Dev nD) {sp : Space} {S : Shape} {e : EltTy} (M : Memref sig .tc sp S e) (f : Bf (F := F) c M) : sProp 𝕄 :=
  M.view.loc (c.tc : Thread nD τ) ↦{fullShare} f

/-- What is owned of a whole memref is its buffer whole. -/
theorem owns_eq_pt (c : Dev nD) {sp : Space} {S : Shape} {e : EltTy} {M : Memref sig .tc sp S e} (h : M.IsWhole) (X : S.Idx → Elt F e) :
    (owns (c.tc : Thread nD τ) M fullShare X : sProp 𝕄) = iprop(∃ f, ⌜M.view.read (Elt F) f = X⌝ ∗ pt c M f) := by
  unfold owns; rw [h.set_eq_univ]

/-- A pipeline's one admissible table. -/
abbrev adm [FloatOps F] : (p : Fin 3) → (pcfgs (F := F) p).Adm := fun p => (cfgs p).toPCfg_adm

/-- The pairs a core may have recorded by the end of call number `n`: those of level at most `8 * n`. -/
abbrev below [FloatOps F] (c : Dev nD) (n : ℕ) : Set (SemLoc sig × HIx 1) := {p | (K (F := F)).lev ((c.tc : Thread nD τ), p.1) p.2 ≤ 8 * n}

/-- The TensorCore owing `O`, having recorded nothing above level `8 * n`: what the thread's state says of its waits. -/
abbrev owesUpTo [FloatOps F] (c : Dev nD) (n : ℕ) : sProp 𝕄 :=
  iprop(∃ W, ⌜(K (F := F)).WBelow (T c) W (8 * n)⌝ ∗ owes (T c) ((K (F := F)).Otc c n) W)

/-- The TensorCore owes nothing at the transfers' index. -/
theorem Otc_none [FloatOps F] (d : Dev nD) (n : ℕ) (g : GSem nD τ sig) : (K (F := F)).Otc d n g (none : HIx 1) = 0 := by
  by_contra h
  have := SparseCore.Cfg.lev_of_Otc_pos (K := K (F := F)) (Nat.pos_of_ne_zero h)
  rw [SparseCore.Cfg.lev_none] at this; omega

end Cert.Proof.IdealRun

end
-- ==== Proof.Ideal.Region0.lean ====
module

public import proofs.«01_k».proof.Proof.Ideal.Setup
public import Idealize.ShloMosaic.Lib.CellWrites
public import Idealize.ShloMosaic.Lib.Pipeline.Value
public import Idealize.ShloMosaic.Lib.VecWindow

@[expose] public section

set_option maxRecDepth 16384

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The four scalars the first pass leaves: the least and the greatest of `x`, the least and the greatest of `y`. -/
def mmVal (x y : Vec F S1024x1024 .f32) : Vec F S4 .f32 := fun j =>
  if (j 0).val = 3 then k0_pay4 y else if (j 0).val = 2 then k0_pay3 y else if (j 0).val = 1 then k0_pay2 x else k0_pay1 x

theorem mm_writes (M2 : Memref sig .tc .smem S4 .f32) (f : M2.view.ty.Contents (Elt F)) (x y : Vec F S1024x1024 .f32) :
    M2.view.read (Elt F) (M2.view.writes (Elt F) f [⟨Rect.unit (s := S4) ![3] S1.size inb_S4_S1_3, fun _ => k0_pay4 y⟩,
      ⟨Rect.unit (s := S4) ![2] S1.size inb_S4_S1_2, fun _ => k0_pay3 y⟩, ⟨Rect.unit (s := S4) ![1] S1.size inb_S4_S1_1, fun _ => k0_pay2 x⟩,
      ⟨Rect.unit (s := S4) ![0] S1.size inb_S4_S1_0, fun _ => k0_pay1 x⟩]) = mmVal x y := by
  funext j
  have hj : (j 0).val < 4 := (j 0).isLt
  refine (View.read_writes_cons_cell (d := ![4]) M2.view f inb_S4_S1_3 (k0_pay4 y) _ j).trans ?_
  unfold mmVal
  show (if (j 0).val = 3 then _ else _) = _
  by_cases e3 : (j 0).val = 3
  · rw [if_pos e3, if_pos e3]
  rw [if_neg e3, if_neg e3]
  refine (View.read_writes_cons_cell (d := ![4]) M2.view f inb_S4_S1_2 (k0_pay3 y) _ j).trans ?_
  show (if (j 0).val = 2 then _ else _) = _
  by_cases e2 : (j 0).val = 2
  · rw [if_pos e2, if_pos e2]
  rw [if_neg e2, if_neg e2]
  refine (View.read_writes_cons_cell (d := ![4]) M2.view f inb_S4_S1_1 (k0_pay2 x) _ j).trans ?_
  show (if (j 0).val = 1 then _ else _) = _
  by_cases e1 : (j 0).val = 1
  · rw [if_pos e1, if_pos e1]
  rw [if_neg e1, if_neg e1]
  refine (View.read_writes_cons_cell (d := ![4]) M2.view f inb_S4_S1_0 (k0_pay1 x) _ j).trans (if_pos ?_)
  show (j 0).val = 0
  omega

/-- The first pass's body: it reads both blocks and leaves the four scalars. -/
theorem run0 (c : Dev nD) (M0 : Memref sig .tc .vmem S1024x1024 .f32) (h0 : M0.IsWhole) (M1 : Memref sig .tc .vmem S1024x1024 .f32) (h1 : M1.IsWhole)
    (M2 : Memref sig .tc .smem S4 .f32) (h2 : M2.IsWhole)
    (f0 : Bf (F := F) c M0) (f1 : Bf (F := F) c M1) (f2 : Bf (F := F) c M2) (E : Set ℕ) (Q : PUnit → sProp 𝕄) :
        iprop(pt c M0 f0 ∗ pt c M1 f1 ∗ pt c M2 f2 ∗ (iprop(pt c M0 f0 ∗ pt c M1 f1 ∗
            ∃ W, ⌜M2.view.read (Elt F) W = mmVal (M0.view.read (Elt F) f0) (M1.view.read (Elt F) f1)⌝ ∗ pt c M2 W) -∗ Q ⟨⟩))
          ⊢ wp frame (wpE (defs₀ (F := F)) Variants.none c.tc none) E (cc0_body M0 h0 M1 h1 M2 h2) Q := by
    rw [cc0_body_eq_skeleton]
    iintro ⟨H0, H1, H2, Hk⟩
    sl_exec!
    sl_step
    iapply Hk
    isplitl [H0]; · iexact H0
    isplitl [H1]; · iexact H1
    iexists _
    isplitr; swap; · iexact H2
    ipureintro
    sl_unfold_run_names
    rw [View.readAt_full, View.readAt_full]
    exact mm_writes M2 _ _ _

/-! ## The proof data -/

/-- Proof data for a pipeline that an entry does not run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

section Entry

variable (c : Dev nD) (x y : Vec F S1024x1024 .f32) (z : Vec F S4 .f32)

/-- The first pass's data: the two arrays and whatever the scalars' buffer holds; after the body the blocks as
    fetched and the four scalars. -/
def dat0 : Dat τ (Elt F) (HIx 1) ℕ UU ℕ cfg0 c where
  A w := match w with
    | ⟨0, _⟩ => x
    | ⟨1, _⟩ => y
    | ⟨2, _⟩ => z
  after w _ := match w with
    | ⟨0, _⟩ => ((cfg0.win 0).blk t0_0).view.read (Elt F) x
    | ⟨1, _⟩ => ((cfg0.win 1).blk t0_0).view.read (Elt F) y
    | ⟨2, _⟩ => mmVal (((cfg0.win 0).blk t0_0).view.read (Elt F) x) (((cfg0.win 1).blk t0_0).view.read (Elt F) y)
  Φ _ := Pipeline.scopedRest spec0 c
  q _ := fullShare
  owed _ := (K (F := F)).Otc c 0
  recorded _ := below (F := F) c 0

theorem before0_0 (d) : (dat0 c x y z).before 0 t0_0 d = ((cfg0.win 0).blk t0_0).view.read (Elt F) x := by
  unfold Dat.before; rw [if_pos (fetch0_0 _)]; rfl

theorem before0_1 (d) : (dat0 c x y z).before 1 t0_0 d = ((cfg0.win 1).blk t0_0).view.read (Elt F) y := by
  unfold Dat.before; rw [if_pos (fetch0_1 _)]; rfl

theorem obligation0 : BodyObligation (dat0 c x y z) (defs₀ (F := F)) 𝒱₀ (none : HIx 1) Set.univ := fun t => by
  obtain rfl := fin_N0 t
  rw [bigSep_W0, bigSep_W0]
  simp only [owns_whole_eq]
  rw [show (dat0 c x y z).Φ t0_0.castSucc = Pipeline.scopedRest spec0 c from rfl, show (dat0 c x y z).Φ t0_0.succ = Pipeline.scopedRest spec0 c from rfl,
    show (dat0 c x y z).owesAt (none : HIx 1) t0_0.succ = (dat0 c x y z).owesAt (none : HIx 1) t0_0.castSucc from rfl]
  iintro ⟨HΦ, Howes, ⟨%d0, %f0, %hf0, H0⟩, ⟨%d1, %f1, %hf1, H1⟩, ⟨%d2, %f2, -, H2⟩⟩
  rw [before0_0] at hf0
  rw [before0_1] at hf1
  subst hf0 hf1
  iapply (run0 (F := F) c (stage0_0 0) (hstage0_0 0) (stage0_1 0) (hstage0_1 0) (stage0_2 0) (hstage0_2 0) _ _ f2 Set.univ _)
  isplitl [H0]; · iexact H0
  isplitl [H1]; · iexact H1
  isplitl [H2]; · iexact H2
  iintro ⟨H0, H1, %W, %hW, H2⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  iexists _; isplitr; swap; (· iexact H2); ipureintro; dsimp only [dat0]; exact hW

/-- The one block of each whole-array window is the array. -/
theorem blk0_0 : ((cfg0.win 0).blk t0_0).view.read (Elt F) x = x := by
  funext j
  exact congrArg x (funext fun a => Fin.ext (win0_0.rect_emb_val_of_index_zero t0_0 a (by fin_cases a <;> rfl) j))

theorem blk0_1 : ((cfg0.win 1).blk t0_0).view.read (Elt F) y = y := by
  funext j
  exact congrArg y (funext fun a => Fin.ext (win0_1.rect_emb_val_of_index_zero t0_0 a (by fin_cases a <;> rfl) j))

theorem blk0_2 : ((cfg0.win 2).blk t0_0).view.read (Elt F) z = z := by
  funext j
  exact congrArg z (funext fun a => Fin.ext (win0_2.rect_emb_val_of_index_zero t0_0 a (by fin_cases a <;> rfl) j))

/-- After the first pass the scalars' array holds the four scalars. -/
theorem out0 : (dat0 c x y z).arrAt 2 cfg0.N = mmVal x y := by
  refine (dat0 c x y z).arrAt_eq_of_cover 2 (mmVal x y) (fun t _ => ?_) (fun i => ⟨t0_0, flush0_2 _, ?_⟩)
  · obtain rfl := fin_N0 t
    rw [blk0_2]
    show mmVal (((cfg0.win 0).blk t0_0).view.read (Elt F) x) (((cfg0.win 1).blk t0_0).view.read (Elt F) y) = _
    rw [blk0_0, blk0_1]
  · have := ((cfg0.win 2).blk t0_0).view.emb_mem_set i
    rwa [show ((cfg0.win 2).blk t0_0).view.emb i = i from
      funext fun a => Fin.ext (win0_2.rect_emb_val_of_index_zero t0_0 a (by fin_cases a <;> rfl) i)] at this

end Entry

/-! ## The region over the thread's state -/

section Reg

variable (x y : Dev nD → Vec F S1024x1024 .f32) (z : Dev nD → Vec F S4 .f32)

def pdats0 : (p : Fin 3) → (c : Dev nD) → Dat τ (Elt F) (HIx 1) ℕ UU ℕ (Pipeline.pin (pcfgs (F := F)) adm p) c
  | ⟨0, _⟩ => fun c => dat0 c (x c) (y c) (z c)
  | ⟨1, _⟩ => fun c => junkDat c
  | ⟨2, _⟩ => fun c => junkDat c

set_option backward.isDefEq.respectTransparency.types false in
/-- The first pass's arrays, one by one. -/
theorem arrays0 (c : Dev nD) (G : (w : Fin 3) → Buf (Elt F) ((spec0 w).arr.view.loc (c.tc : Thread nD τ))) :
    (pdats0 x y z 0 c).arrays G
      = iprop(pt c (Memref.whole main_arg0) (G 0) ∗ pt c (Memref.whole main_arg1) (G 1) ∗ pt c (Memref.whole main_v0) (G 2)) :=
  (Pipeline.arrays_eq (Pipeline.pin (pcfgs (F := F)) adm) (pdats0 x y z) 0 c arr_whole0
      ((pdats0 x y z 0 c).share_full fun _ => rfl) G).trans (bigSep_W0 _)

set_option backward.isDefEq.respectTransparency.types false in
/-- The first pass: from the two arguments and the scalars' buffer to the same with the four scalars in it. -/
def reg0 : Pipeline.RegionSeg (pcfgs (F := F)) adm (pdats0 x y z) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 c (x c) (y c) (z c)).loose
  hwaits c := Pipeline.cellsWaits_intro _ (pdats0 x y z) _ 0 c fun w s t => (K (F := F)).mayWait_none _ (Otc_none c 0)
  pre c := iprop(pt c (Memref.whole main_arg0) (x c) ∗ pt c (Memref.whole main_arg1) (y c) ∗ pt c (Memref.whole main_v0) (z c) ∗ owesUpTo (F := F) c 0)
  post c := iprop(pt c (Memref.whole main_arg0) (x c) ∗ pt c (Memref.whole main_arg1) (y c) ∗ pt c (Memref.whole main_v0) (mmVal (x c) (y c)) ∗ owesUpTo (F := F) c 0)
  X _ := BI.emp
  Y _ := BI.emp
  Z _ := BI.emp
  hentry c := by
    rw [Pipeline.ownSems0_none]
    have hin := Idealize.SL.BI.BIBase.Entails.of_eq (arrays0 x y z c fun w => (pdats0 x y z 0 c).arrAt w 0).symm
    iintro ⟨⟨Hx, Hy, Hz, HO⟩, -, -⟩
    imodintro
    isplitl [Hx Hy Hz]
    · iapply hin
      isplitl [Hx]; · iexact Hx
      isplitl [Hy]; · iexact Hy
      iexact Hz
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats0 x y z 0 c).Φ 0 = Pipeline.scopedRest spec0 c from rfl]
    iintro ⟨-, -, Hr⟩; iexact Hr
  hout c := by
    rw [Pipeline.ownSems0_none, show (pdats0 x y z 0 c).Φ (Fin.last _) = Pipeline.scopedRest spec0 c from rfl]
    iintro Hr
    isplitr; · iempintro
    isplitr; · iempintro
    iexact Hr
  hexit c := by
    have hout := Idealize.SL.BI.BIBase.Entails.of_eq (arrays0 x y z c fun w => (pdats0 x y z 0 c).arrAt w cfg0.N)
    rw [show (pdats0 x y z 0 c).arrAt 2 cfg0.N = mmVal (x c) (y c) from out0 c (x c) (y c) (z c),
      show (pdats0 x y z 0 c).arrAt 0 cfg0.N = x c from (dat0 c (x c) (y c) (z c)).arrAt_in 0 rfl _,
      show (pdats0 x y z 0 c).arrAt 1 cfg0.N = y c from (dat0 c (x c) (y c) (z c)).arrAt_in 1 rfl _] at hout
    iintro ⟨Ha, HO, -, -⟩
    imodintro
    ihave H := hout $$ Ha
    icases H with ⟨Hx, Hy, Hz⟩
    isplitl [Hx]; · iexact Hx
    isplitl [Hy]; · iexact Hy
    isplitl [Hz]; · iexact Hz
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Reg

end Cert.Proof.IdealRun

end
-- ==== Proof.Ideal.Region1.lean ====
module

public import proofs.«01_k».proof.Proof.Ideal.Region0
public import Idealize.ShloMosaic.Lib.CellWrites
public import Idealize.ShloMosaic.Lib.Pipeline.Value
public import Idealize.ShloMosaic.Lib.VecWindow

@[expose] public section

set_option maxRecDepth 16384

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The index of scalar `k`. -/
def at4 (k : Fin 4) : S4.Idx := fun a => ⟨k.val, by fin_cases a; exact k.isLt⟩

/-- The words of one block of columns: from the scalars and the two blocks. -/
def wordBlk (mm : Vec F S4 .f32) (X Y : Vec F S1024x256 .f32) : IVec S1024x128 32 :=
  k1_pay1 (k1_pay2 X (mm (at4 0)) (mm (at4 1)) (mm (at4 0)) Y (mm (at4 2)) (mm (at4 3)) (mm (at4 2)))
    (k1_pay3 X (mm (at4 0)) (mm (at4 1)) (mm (at4 0)) Y (mm (at4 2)) (mm (at4 3)) (mm (at4 2)))

/-- A load of scalar `k` reads the buffer's element `k`. -/
theorem at_readAt (M1 : Memref sig .tc .smem S4 .f32) (f : M1.view.ty.Contents (Elt F)) (k : Fin 4) (off : Fin 1 → ℕ) (ho : off 0 = k.val)
    (inb : ∀ a, off a + S1.size a ≤ S4.size a) (h : 0 < (Rect.unit (s := S4) off S1.size inb).shape.numel) :
    M1.view.readAt (Elt F) (Rect.unit (s := S4) off S1.size inb).toLoadRect f (Shape.Idx.first h) = M1.view.read (Elt F) f (at4 k) :=
  congrArg (M1.view.read (Elt F) f) (funext fun a => Fin.ext (by
    fin_cases a
    have hz : (Shape.Idx.first h 0).val < 1 := (Shape.Idx.first h 0).isLt
    show off 0 + 1 * (Shape.Idx.first h 0).val = k.val
    omega))

/-- The second pass's body: it reads the scalars and both blocks and leaves the block of words. -/
theorem run1 (c : Dev nD) (i : grid1.Coords) (M1 : Memref sig .tc .smem S4 .f32) (h1 : M1.IsWhole) (M2 : Memref sig .tc .vmem S1024x256 .f32) (h2 : M2.IsWhole)
    (M3 : Memref sig .tc .vmem S1024x256 .f32) (h3 : M3.IsWhole) (M4 : Memref sig .tc .vmem S1024x128 .i32) (h4 : M4.IsWhole)
    (f1 : Bf (F := F) c M1) (f2 : Bf (F := F) c M2) (f3 : Bf (F := F) c M3) (f4 : Bf (F := F) c M4) (E : Set ℕ) (Q : PUnit → sProp 𝕄) :
        iprop(pt c M1 f1 ∗ pt c M2 f2 ∗ pt c M3 f3 ∗ pt c M4 f4 ∗ (iprop(pt c M1 f1 ∗ pt c M2 f2 ∗ pt c M3 f3 ∗
            ∃ W, ⌜M4.view.read (Elt F) W = wordBlk (M1.view.read (Elt F) f1) (M2.view.read (Elt F) f2) (M3.view.read (Elt F) f3)⌝ ∗ pt c M4 W) -∗ Q ⟨⟩))
          ⊢ wp frame (wpE (defs₀ (F := F)) Variants.none c.tc none) E (cc1_body i M1 h1 M2 h2 M3 h3 M4 h4) Q := by
    rw [cc1_body_eq_skeleton]
    iintro ⟨H1, H2, H3, H4, Hk⟩
    sl_exec!
    sl_step
    iapply Hk
    isplitl [H1]; · iexact H1
    isplitl [H2]; · iexact H2
    isplitl [H3]; · iexact H3
    iexists _
    isplitr; swap; · iexact H4
    ipureintro
    sl_unfold_run_names
    rw [View.read_writes_full, View.readAt_full, View.readAt_full, at_readAt M1 f1 0 _ rfl, at_readAt M1 f1 1 _ rfl,
      at_readAt M1 f1 2 _ rfl, at_readAt M1 f1 3 _ rfl]
    rfl

/-! ## The proof data -/

/-- Columns `256 b` to `256 b + 255` of an array. -/
def colBlk (b : ℕ) (x : Vec F S1024x1024 .f32) : Vec F S1024x256 .f32 := fun j =>
  x (fun a => ⟨if a = 0 then (j 0).val else (256 * b + (j 1).val) % 1024, by
    fin_cases a
    · exact (j 0).isLt
    · exact Nat.mod_lt _ (by decide)⟩)

/-- The index within a block of words of the element at index `j` of the array of words. -/
def inBlk (j : S4096x128.Idx) : S1024x128.Idx := fun a => ⟨if a = 0 then (j 0).val % 1024 else (j 1).val, by
    fin_cases a
    · exact Nat.mod_lt _ (by decide)
    · exact (j 1).isLt⟩

/-- The packed words of the whole arrays. -/
def packed (mm : Vec F S4 .f32) (x y : Vec F S1024x1024 .f32) : IVec S4096x128 32 := fun j =>
  wordBlk mm (colBlk ((j 0).val / 1024) x) (colBlk ((j 0).val / 1024) y) (inBlk j)

section Entry

variable (c : Dev nD) (mm : Vec F S4 .f32) (x y : Vec F S1024x1024 .f32) (z : IVec S4096x128 32)

/-- The second pass's data: the scalars, the two arrays and whatever the words' buffer holds; after the body the inputs'
    blocks as fetched and the block of words. -/
def dat1 : Dat τ (Elt F) (HIx 1) ℕ UU ℕ cfg1 c where
  A w := match w with
    | ⟨0, _⟩ => mm
    | ⟨1, _⟩ => x
    | ⟨2, _⟩ => y
    | ⟨3, _⟩ => z
  after w t := match w with
    | ⟨0, _⟩ => ((cfg1.win 0).blk t).view.read (Elt F) mm
    | ⟨1, _⟩ => ((cfg1.win 1).blk t).view.read (Elt F) x
    | ⟨2, _⟩ => ((cfg1.win 2).blk t).view.read (Elt F) y
    | ⟨3, _⟩ => wordBlk (((cfg1.win 0).blk t).view.read (Elt F) mm) (((cfg1.win 1).blk t).view.read (Elt F) x) (((cfg1.win 2).blk t).view.read (Elt F) y)
  Φ _ := Pipeline.scopedRest spec1 c
  q _ := fullShare
  owed _ := (K (F := F)).Otc c 0
  recorded _ := below (F := F) c 0

theorem before1_0 (t : Fin cfg1.N) (d) : (dat1 c mm x y z).before 0 t d = ((cfg1.win 0).blk t).view.read (Elt F) mm :=
  (dat1 c mm x y z).before_in_eq_fetched 0 rfl (fun _ => rfl) (fun _ _ _ => rfl) (fun _ => rfl) t d

theorem before1_1 (t : Fin cfg1.N) (d) : (dat1 c mm x y z).before 1 t d = ((cfg1.win 1).blk t).view.read (Elt F) x :=
  (dat1 c mm x y z).before_in_eq_fetched 1 rfl (fun _ => rfl) (fun _ _ _ => rfl) (fun _ => rfl) t d

theorem before1_2 (t : Fin cfg1.N) (d) : (dat1 c mm x y z).before 2 t d = ((cfg1.win 2).blk t).view.read (Elt F) y :=
  (dat1 c mm x y z).before_in_eq_fetched 2 rfl (fun _ => rfl) (fun _ _ _ => rfl) (fun _ => rfl) t d

theorem obligation1 : BodyObligation (dat1 c mm x y z) (defs₀ (F := F)) 𝒱₀ (none : HIx 1) Set.univ := fun t => by
  have w0 : ((cfg1.win 0).stage (cfg1.slots t 0)).IsWhole := hstage1_0 ((cfg1.slots t 0).cast nbuf1_0)
  have w1 : ((cfg1.win 1).stage (cfg1.slots t 1)).IsWhole := hstage1_1 ((cfg1.slots t 1).cast nbuf1_1)
  have w2 : ((cfg1.win 2).stage (cfg1.slots t 2)).IsWhole := hstage1_2 ((cfg1.slots t 2).cast nbuf1_2)
  have w3 : ((cfg1.win 3).stage (cfg1.slots t 3)).IsWhole := hstage1_3 ((cfg1.slots t 3).cast nbuf1_3)
  rw [bigSep_W1, bigSep_W1]
  simp only [owns_eq_pt c w0, owns_eq_pt c w1, owns_eq_pt c w2, owns_eq_pt c w3]
  rw [show (dat1 c mm x y z).Φ t.castSucc = Pipeline.scopedRest spec1 c from rfl, show (dat1 c mm x y z).Φ t.succ = Pipeline.scopedRest spec1 c from rfl,
    show (dat1 c mm x y z).owesAt (none : HIx 1) t.succ = (dat1 c mm x y z).owesAt (none : HIx 1) t.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before1_0] at hf0
  rw [before1_1] at hf1
  rw [before1_2] at hf2
  iapply (run1 (F := F) c (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) f0 f1 f2 f3 Set.univ _)
  isplitl [H0]; · iexact H0
  isplitl [H1]; · iexact H1
  isplitl [H2]; · iexact H2
  isplitl [H3]; · iexact H3
  iintro ⟨H0, H1, H2, %W, %hW, H3⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  iexists _; isplitr; swap; (· iexact H3); ipureintro; dsimp only [dat1]; rw [← hf0, ← hf1, ← hf2]; exact hW

/-- The scalars' one block is their array. -/
theorem blk1_0 (t : Fin cfg1.N) : ((cfg1.win 0).blk t).view.read (Elt F) mm = mm := by
  funext j
  exact congrArg mm (funext fun a => Fin.ext (win1_0.rect_emb_val_of_index_zero t a (by fin_cases a; rfl) j))

theorem coord1 (t : Fin cfg1.N) : (grid1.coords t 0).val = t.val := by
  have ht : t.val < 4 := t.isLt
  rw [Pipeline.Grid.coords_val (S := 1) (B := 4) t 0 (by decide) rfl]; omega

theorem index1 (t : Fin cfg1.N) : (BitVec.ofNat 32 (grid1.coords t 0).val).toNat = t.val := by
  have ht : t.val < 4 := t.isLt
  rw [coord1, BitVec.toNat_ofNat]; omega

/-- Block `t` of an argument is its columns from `256 t`. -/
theorem blk1_1 (t : Fin cfg1.N) : ((cfg1.win 1).blk t).view.read (Elt F) x = colBlk t.val x := by
  have ht : t.val < 4 := t.isLt
  funext j
  have hj : (j 1).val < 256 := (j 1).isLt
  refine congrArg x (funext fun a => Fin.ext ?_)
  refine (win1_1.rect_emb_val t j a rfl).trans ?_
  fin_cases a
  · show 0 * 1024 + (j 0).val = (j 0).val
    omega
  · show (BitVec.ofNat 32 (grid1.coords t 0).val).toNat * 256 + (j 1).val = (256 * t.val + (j 1).val) % 1024
    rw [index1]; omega

theorem blk1_2 (t : Fin cfg1.N) : ((cfg1.win 2).blk t).view.read (Elt F) x = colBlk t.val x := by
  have ht : t.val < 4 := t.isLt
  funext j
  have hj : (j 1).val < 256 := (j 1).isLt
  refine congrArg x (funext fun a => Fin.ext ?_)
  refine (win1_2.rect_emb_val t j a rfl).trans ?_
  fin_cases a
  · show 0 * 1024 + (j 0).val = (j 0).val
    omega
  · show (BitVec.ofNat 32 (grid1.coords t 0).val).toNat * 256 + (j 1).val = (256 * t.val + (j 1).val) % 1024
    rw [index1]; omega

/-- Where element `j` of block `t` of the words lies in their array. -/
theorem emb1_3 (t : Fin cfg1.N) (j : S1024x128.Idx) (a : Fin 2) :
    ((((cfg1.win 3).blk t).view.emb j) a).val = if a = 0 then 1024 * t.val + (j 0).val else (j 1).val := by
  refine (win1_3.rect_emb_val t j a rfl).trans ?_
  fin_cases a
  · show (BitVec.ofNat 32 (grid1.coords t 0).val).toNat * 1024 + (j 0).val = 1024 * t.val + (j 0).val
    rw [index1]; omega
  · show 0 * 128 + (j 1).val = (j 1).val
    omega

/-- After the second pass the words' array holds the packed words. -/
theorem out1 : (dat1 c mm x y z).arrAt 3 cfg1.N = packed mm x y := by
  refine (dat1 c mm x y z).arrAt_eq_of_cover 3 (packed mm x y) (fun t _ => ?_) (fun i => ?_)
  · show wordBlk (((cfg1.win 0).blk t).view.read (Elt F) mm) (((cfg1.win 1).blk t).view.read (Elt F) x) (((cfg1.win 2).blk t).view.read (Elt F) y) = _
    rw [blk1_0, blk1_1, blk1_2]
    funext j
    have hj : (j 0).val < 1024 := (j 0).isLt
    show _ = packed mm x y (((cfg1.win 3).blk t).view.emb j)
    unfold packed
    have e0 := emb1_3 t j 0
    have e1 := emb1_3 t j 1
    rw [if_pos rfl] at e0
    rw [if_neg (by decide)] at e1
    have hb : (((cfg1.win 3).blk t).view.emb j 0).val / 1024 = t.val := by rw [e0]; omega
    rw [hb]
    refine congrArg _ (funext fun a => Fin.ext ?_)
    fin_cases a
    · show (j 0).val = (((cfg1.win 3).blk t).view.emb j 0).val % 1024
      rw [e0]; omega
    · show (j 1).val = (((cfg1.win 3).blk t).view.emb j 1).val
      rw [e1]
  · have hi : (i 0).val < 4096 := (i 0).isLt
    have hb : (i 0).val / 1024 < 4 := by omega
    refine ⟨(⟨(i 0).val / 1024, hb⟩ : Fin cfg1.N), flush1_3 _, ?_⟩
    have := ((cfg1.win 3).blk (⟨(i 0).val / 1024, hb⟩ : Fin cfg1.N)).view.emb_mem_set (inBlk i)
    rwa [show ((cfg1.win 3).blk (⟨(i 0).val / 1024, hb⟩ : Fin cfg1.N)).view.emb (inBlk i) = i from
      funext fun a => Fin.ext ((emb1_3 _ (inBlk i) a).trans (by
        fin_cases a
        · show 1024 * ((i 0).val / 1024) + (i 0).val % 1024 = (i 0).val
          omega
        · rfl))] at this

end Entry

/-! ## The region over the thread's state -/

section Reg

variable (mm : Dev nD → Vec F S4 .f32) (x y : Dev nD → Vec F S1024x1024 .f32) (z : Dev nD → IVec S4096x128 32)

def pdats1 : (p : Fin 3) → (c : Dev nD) → Dat τ (Elt F) (HIx 1) ℕ UU ℕ (Pipeline.pin (pcfgs (F := F)) adm p) c
  | ⟨0, _⟩ => fun c => junkDat c
  | ⟨1, _⟩ => fun c => dat1 c (mm c) (x c) (y c) (z c)
  | ⟨2, _⟩ => fun c => junkDat c

set_option backward.isDefEq.respectTransparency.types false in
/-- The second pass's arrays, one by one. -/
theorem arrays1 (c : Dev nD) (G : (w : Fin 4) → Buf (Elt F) ((spec1 w).arr.view.loc (c.tc : Thread nD τ))) :
    (pdats1 mm x y z 1 c).arrays G
      = iprop(pt c (Memref.whole main_v0) (G 0) ∗ pt c (Memref.whole main_arg0) (G 1) ∗ pt c (Memref.whole main_arg1) (G 2) ∗ pt c (Memref.whole main_v1) (G 3)) :=
  (Pipeline.arrays_eq (Pipeline.pin (pcfgs (F := F)) adm) (pdats1 mm x y z) 1 c arr_whole1
      ((pdats1 mm x y z 1 c).share_full fun _ => rfl) G).trans (bigSep_W1 _)

set_option backward.isDefEq.respectTransparency.types false in
/-- The second pass: from the scalars, the two arguments and the words' buffer to the same with the packed words in it. -/
def reg1 : Pipeline.RegionSeg (pcfgs (F := F)) adm (pdats1 mm x y z) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (obligation1 c (mm c) (x c) (y c) (z c)).loose
  hwaits c := Pipeline.cellsWaits_intro _ (pdats1 mm x y z) _ 1 c fun w s t => (K (F := F)).mayWait_none _ (Otc_none c 0)
  pre c := iprop(pt c (Memref.whole main_v0) (mm c) ∗ pt c (Memref.whole main_arg0) (x c) ∗ pt c (Memref.whole main_arg1) (y c)
    ∗ pt c (Memref.whole main_v1) (z c) ∗ owesUpTo (F := F) c 0)
  post c := iprop(pt c (Memref.whole main_v0) (mm c) ∗ pt c (Memref.whole main_arg0) (x c) ∗ pt c (Memref.whole main_arg1) (y c)
    ∗ pt c (Memref.whole main_v1) (packed (mm c) (x c) (y c)) ∗ owesUpTo (F := F) c 0)
  X _ := BI.emp
  Y _ := BI.emp
  Z _ := BI.emp
  hentry c := by
    rw [Pipeline.ownSems0_none]
    have hin := Idealize.SL.BI.BIBase.Entails.of_eq (arrays1 mm x y z c fun w => (pdats1 mm x y z 1 c).arrAt w 0).symm
    iintro ⟨⟨Hm, Hx, Hy, Hz, HO⟩, -, -⟩
    imodintro
    isplitl [Hm Hx Hy Hz]
    · iapply hin
      isplitl [Hm]; · iexact Hm
      isplitl [Hx]; · iexact Hx
      isplitl [Hy]; · iexact Hy
      iexact Hz
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats1 mm x y z 1 c).Φ 0 = Pipeline.scopedRest spec1 c from rfl]
    iintro ⟨-, -, Hr⟩; iexact Hr
  hout c := by
    rw [Pipeline.ownSems0_none, show (pdats1 mm x y z 1 c).Φ (Fin.last _) = Pipeline.scopedRest spec1 c from rfl]
    iintro Hr
    isplitr; · iempintro
    isplitr; · iempintro
    iexact Hr
  hexit c := by
    have hout := Idealize.SL.BI.BIBase.Entails.of_eq (arrays1 mm x y z c fun w => (pdats1 mm x y z 1 c).arrAt w cfg1.N)
    rw [show (pdats1 mm x y z 1 c).arrAt 3 cfg1.N = packed (mm c) (x c) (y c) from out1 c (mm c) (x c) (y c) (z c),
      show (pdats1 mm x y z 1 c).arrAt 0 cfg1.N = mm c from (dat1 c (mm c) (x c) (y c) (z c)).arrAt_in 0 rfl _,
      show (pdats1 mm x y z 1 c).arrAt 1 cfg1.N = x c from (dat1 c (mm c) (x c) (y c) (z c)).arrAt_in 1 rfl _,
      show (pdats1 mm x y z 1 c).arrAt 2 cfg1.N = y c from (dat1 c (mm c) (x c) (y c) (z c)).arrAt_in 2 rfl _] at hout
    iintro ⟨Ha, HO, -, -⟩
    imodintro
    ihave H := hout $$ Ha
    icases H with ⟨Hm, Hx, Hy, Hz⟩
    isplitl [Hm]; · iexact Hm
    isplitl [Hx]; · iexact Hx
    isplitl [Hy]; · iexact Hy
    isplitl [Hz]; · iexact Hz
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Reg

end Cert.Proof.IdealRun

end
-- ==== Proof.Ideal.Region3.lean ====
module

public import proofs.«01_k».proof.Proof.Ideal.Region0
public import Idealize.ShloMosaic.Lib.CellWrites
public import Idealize.ShloMosaic.Lib.Pipeline.Value
public import Idealize.ShloMosaic.Lib.VecWindow

@[expose] public section

set_option maxRecDepth 16384

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The result from the thirty-two histograms: their sum, then the printed statistics. -/
def miVal (v0 : Vec F S32x512x128 .f32) : F .f32 :=
  k3_pay4 (k3_pay7 (k3_pay2 v0)) (k3_pay8 (k3_pay2 v0)) (k3_pay9 (k3_pay2 v0)) k3_pay10

theorem run3 (c : Dev nD) (M1 : Memref sig .tc .vmem S32x512x128 .f32) (h1 : M1.IsWhole) (M2 : Memref sig .tc .smem S1 .f32) (h2 : M2.IsWhole)
    (M3 : Memref sig .tc .vmem S512x128 .f32) (h3 : M3.IsWhole)
    (f1 : Bf (F := F) c M1) (f2 : Bf (F := F) c M2) (f3 : Bf (F := F) c M3) (E : Set ℕ) (Q : PUnit → sProp 𝕄) :
        iprop(pt c M1 f1 ∗ pt c M2 f2 ∗ pt c M3 f3 ∗ (iprop(pt c M1 f1 ∗
            (∃ W, ⌜M2.view.read (Elt F) W = fun _ => miVal (M1.view.read (Elt F) f1)⌝ ∗ pt c M2 W) ∗ ∃ W, pt c M3 W) -∗ Q ⟨⟩))
          ⊢ wp frame (wpE (defs₀ (F := F)) Variants.none c.tc none) E (cc3_body (grid3.coords t3_0) M1 h1 M2 h2 M3 h3) Q := by
    rw [cc3_body_eq_skeleton]
    iintro ⟨H1, H2, H3, Hk⟩
    sl_exec!
    sl_step
    iapply Hk
    isplitl [H1]; · iexact H1
    isplitl [H2]
    · iexists _
      isplitr; swap; · iexact H2
      ipureintro
      sl_unfold_run_names
      rw [View.readAt_full]
      have hc : M3.view.readCov (Val := Elt F) [⟨Rect.unit (s := S512x128) ![0, 0] S512x128.size inb_S512x128_S512x128_0_0, k3_pay2 (M1.view.read (Elt F) f1)⟩]
          (Rect.unit (s := S512x128) ![0, 0] S512x128.size inb_S512x128_S512x128_0_0).toLoadRect = k3_pay2 (M1.view.read (Elt F) f1) :=
        View.readAt_writes_full _ _ _ _ _ _
      rw [hc]
      exact View.read_writes_full (s := S1) M2.view _ inb_S1_S1_0 _ []
    iexists _; iexact H3

/-! ## The proof data -/

section Entry

variable (c : Dev nD) (h : Vec F S32x512x128 .f32) (z : Vec F S1 .f32)

/-- The last pass's data: the histograms and whatever the result's buffer holds; after the body the histograms and the
    result. -/
def dat3 : Dat τ (Elt F) (HIx 1) ℕ UU ℕ cfg3 c where
  A w := match w with
    | ⟨0, _⟩ => h
    | ⟨1, _⟩ => z
  after w _ := match w with
    | ⟨0, _⟩ => ((cfg3.win 0).blk t3_0).view.read (Elt F) h
    | ⟨1, _⟩ => fun _ => miVal (((cfg3.win 0).blk t3_0).view.read (Elt F) h)
  Φ _ := Pipeline.scopedRest spec3 c
  q _ := fullShare
  owed _ := (K (F := F)).Otc c 1
  recorded _ := below (F := F) c 1

theorem before3_0 (d) : (dat3 c h z).before 0 t3_0 d = ((cfg3.win 0).blk t3_0).view.read (Elt F) h := by
  unfold Dat.before; rw [if_pos (fetch3_0 _)]; rfl

theorem obligation3 : BodyObligation (dat3 c h z) (defs₀ (F := F)) 𝒱₀ (none : HIx 1) Set.univ := fun t => by
  obtain rfl := fin_N3 t
  rw [bigSep_W3, bigSep_W3]
  have w0 : ((cfg3.win 0).stage (cfg3.slots t3_0 0)).IsWhole := hstage3_0 ((cfg3.slots t3_0 0).cast nbuf3_0)
  have w1 : ((cfg3.win 1).stage (cfg3.slots t3_0 1)).IsWhole := hstage3_1 ((cfg3.slots t3_0 1).cast nbuf3_1)
  simp only [owns_eq_pt c w0, owns_eq_pt c w1, show idle3 1 (grid3.coords t3_0) = false from rfl, show cfg3.idle 1 (cfg3.grid.coords t3_0) = false from rfl]
  rw [show (dat3 c h z).Φ t3_0.castSucc = Pipeline.scopedRest spec3 c from rfl, show (dat3 c h z).Φ t3_0.succ = Pipeline.scopedRest spec3 c from rfl,
    show (dat3 c h z).owesAt (none : HIx 1) t3_0.succ = (dat3 c h z).owesAt (none : HIx 1) t3_0.castSucc from rfl, scopedRest3_eq]
  iintro ⟨⟨R1, R2, R3, R4, R5, R6, R7, R8, ⟨%fs, Hs⟩, R10, R11⟩, Howes, ⟨%d0, %f0, %hf0, H0⟩, ⟨%d1, %f1, -, H1⟩⟩
  rw [before3_0] at hf0
  iapply (run3 (F := F) c (win3_0.stage (cfg3.slots t3_0 0)) (hstage3_0 ((cfg3.slots t3_0 0).cast nbuf3_0)) (win3_1.stage (cfg3.slots t3_0 1))
    (hstage3_1 ((cfg3.slots t3_0 1).cast nbuf3_1)) (Memref.whole cc3_scratch0) (Memref.isWhole_whole _) f0 f1 fs Set.univ _)
  isplitl [H0]; · iexact H0
  isplitl [H1]; · iexact H1
  isplitl [Hs]; · iexact Hs
  iintro ⟨H0, ⟨%W, %hW, H1⟩, Hs⟩
  isplitl [R1 R2 R3 R4 R5 R6 R7 R8 Hs R10 R11]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [Hs]; · iexact Hs
    isplitl [R10]; · iexact R10
    iexact R11
  isplitl [Howes]; · iexact Howes
  isplitl [H0]; · iexists _; isplitr; swap; (· iexact H0); ipureintro; exact hf0
  iexists _; isplitr; swap; (· iexact H1); ipureintro; dsimp only [dat3]; rw [← hf0]; exact hW

/-- The one block of each whole-array window is the array. -/
theorem blk3_0 : ((cfg3.win 0).blk t3_0).view.read (Elt F) h = h := by
  funext j
  exact congrArg h (funext fun a => Fin.ext (win3_0.rect_emb_val_of_index_zero t3_0 a (by fin_cases a <;> rfl) j))

theorem blk3_1 : ((cfg3.win 1).blk t3_0).view.read (Elt F) z = z := by
  funext j
  exact congrArg z (funext fun a => Fin.ext (win3_1.rect_emb_val_of_index_zero t3_0 a (by fin_cases a <;> rfl) j))

/-- After the last pass the result's array holds the result. -/
theorem out3 : (dat3 c h z).arrAt 1 cfg3.N = fun _ => miVal h := by
  refine (dat3 c h z).arrAt_eq_of_cover 1 (fun _ => miVal h) (fun t _ => ?_) (fun i => ⟨t3_0, flush3_1 _, ?_⟩)
  · obtain rfl := fin_N3 t
    rw [blk3_1]
    show (fun _ => miVal (((cfg3.win 0).blk t3_0).view.read (Elt F) h)) = _
    rw [blk3_0]
    rfl
  · have := ((cfg3.win 1).blk t3_0).view.emb_mem_set i
    rwa [show ((cfg3.win 1).blk t3_0).view.emb i = i from
      funext fun a => Fin.ext (win3_1.rect_emb_val_of_index_zero t3_0 a (by fin_cases a <;> rfl) i)] at this

end Entry

/-! ## The region over the thread's state -/

section Reg

variable (h : Dev nD → Vec F S32x512x128 .f32) (z : Dev nD → Vec F S1 .f32)

def pdats3 : (p : Fin 3) → (c : Dev nD) → Dat τ (Elt F) (HIx 1) ℕ UU ℕ (Pipeline.pin (pcfgs (F := F)) adm p) c
  | ⟨0, _⟩ => fun c => junkDat c
  | ⟨1, _⟩ => fun c => junkDat c
  | ⟨2, _⟩ => fun c => dat3 c (h c) (z c)

set_option backward.isDefEq.respectTransparency.types false in
/-- The last pass's arrays, one by one. -/
theorem arrays3 (c : Dev nD) (G : (w : Fin 2) → Buf (Elt F) ((spec3 w).arr.view.loc (c.tc : Thread nD τ))) :
    (pdats3 h z 2 c).arrays G
      = iprop(pt c (Memref.whole main_v3) (G 0) ∗ pt c (Memref.whole main_v4) (G 1)) :=
  (Pipeline.arrays_eq (Pipeline.pin (pcfgs (F := F)) adm) (pdats3 h z) 2 c arr_whole3
      ((pdats3 h z 2 c).share_full fun _ => rfl) G).trans (bigSep_W3 _)

set_option backward.isDefEq.respectTransparency.types false in
/-- The last pass: from the histograms and the result's buffer to the same with the result in it. -/
def reg3 : Pipeline.RegionSeg (pcfgs (F := F)) adm (pdats3 h z) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (obligation3 c (h c) (z c)).loose
  hwaits c := Pipeline.cellsWaits_intro _ (pdats3 h z) _ 2 c fun w s t => (K (F := F)).mayWait_none _ (Otc_none c 1)
  pre c := iprop(pt c (Memref.whole main_v3) (h c) ∗ pt c (Memref.whole main_v4) (z c) ∗ owesUpTo (F := F) c 1)
  post c := iprop(pt c (Memref.whole main_v3) (h c) ∗ pt c (Memref.whole main_v4) (fun _ => miVal (h c)) ∗ owesUpTo (F := F) c 1)
  X _ := BI.emp
  Y _ := BI.emp
  Z _ := BI.emp
  hentry c := by
    rw [Pipeline.ownSems0_none]
    have hin := Idealize.SL.BI.BIBase.Entails.of_eq (arrays3 h z c fun w => (pdats3 h z 2 c).arrAt w 0).symm
    iintro ⟨⟨Hx, Hz, HO⟩, -, -⟩
    imodintro
    isplitl [Hx Hz]
    · iapply hin
      isplitl [Hx]; · iexact Hx
      iexact Hz
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats3 h z 2 c).Φ 0 = Pipeline.scopedRest spec3 c from rfl]
    iintro ⟨-, -, Hr⟩; iexact Hr
  hout c := by
    rw [Pipeline.ownSems0_none, show (pdats3 h z 2 c).Φ (Fin.last _) = Pipeline.scopedRest spec3 c from rfl]
    iintro Hr
    isplitr; · iempintro
    isplitr; · iempintro
    iexact Hr
  hexit c := by
    have hout := Idealize.SL.BI.BIBase.Entails.of_eq (arrays3 h z c fun w => (pdats3 h z 2 c).arrAt w cfg3.N)
    rw [show (pdats3 h z 2 c).arrAt 1 cfg3.N = (fun _ => miVal (h c)) from out3 c (h c) (z c),
      show (pdats3 h z 2 c).arrAt 0 cfg3.N = h c from (dat3 c (h c) (z c)).arrAt_in 0 rfl _] at hout
    iintro ⟨Ha, HO, -, -⟩
    imodintro
    ihave H := hout $$ Ha
    icases H with ⟨Hx, Hz⟩
    isplitl [Hx]; · iexact Hx
    isplitl [Hz]; · iexact Hz
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Reg

end Cert.Proof.IdealRun

end
-- ==== Proof.Ideal.Tile.lean ====
module

public import proofs.«01_k».proof.Proof.Ideal.Region3
public import Idealize.ShloMosaic.Lib.CellWrites
public import Idealize.ShloMosaic.Lib.Pipeline.Value
public import Idealize.ShloMosaic.Lib.VecWindow

@[expose] public section

set_option maxRecDepth 16384

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (Pay tileRest ownBufs ownSems0 ownCells ownRefs mem_ownCells mem_ownRefs)

variable {F : FTy → Type} [FloatOps F]

local notation "𝕄" => MT nD τ sig (HIx 1) (Elt F) ℕ UU ℕ

/-! ## The tile's memrefs -/

abbrev wM : Memref sig .scVector .hbm S524288 .i32 := Memref.whole main_v2_scv
abbrev oM : Memref sig .scVector .hbm S32x512x128 .f32 := Memref.whole main_v3_scv
abbrev hM : Memref sig .scVector .vmem S512x128 .f32 := Memref.whole cc2_scratch0
abbrev iM : Memref sig .scVector .vmem S16384 .i32 := Memref.whole cc2_scratch1

/-- A tile's buffer behind memref `M`, whole at `f`. -/
abbrev vpt (thr : Thread nD τ) {sp : Space} {S : Shape} {e : EltTy} (M : Memref sig thr.2.kind sp S e) (f : Buf (Elt F) (M.view.loc thr)) : sProp 𝕄 :=
  M.view.loc thr ↦{fullShare} f

/-- The same at share `q`. -/
abbrev vptq (thr : Thread nD τ) (q : PosShare TreeShare) {sp : Space} {S : Shape} {e : EltTy} (M : Memref sig thr.2.kind sp S e) (f : Buf (Elt F) (M.view.loc thr)) : sProp 𝕄 :=
  M.view.loc thr ↦{q} f

section Trips

variable (d : Dev nD) (L : grid2.Coords)

abbrev cV : Fin τ.nSC := (L 0).castLE hcore2
abbrev jV : Fin τ.nSub := (L 1).castLE hsub2
abbrev thr : Thread nD τ := V d (cV L) (jV L)

/-- The rows below `k` of a histogram buffer hold the printed zero. -/
def ZeroBelow (k : ℕ) (f : Vec F S512x128 .f32) : Prop := ∀ j : S512x128.Idx, (j 0).val < k → f j = FloatOps.ofBits .f32 0x00000000#32

/-- One more piece of sixteen zeros keeps an element zero that was zero below it or that it covers. -/
theorem zero_cons (f : Buf (Elt F) ((thr d L).loc cc2_scratch0)) {off : Fin 2 → ℕ} {k n : ℕ} (hoff : off = ![k, n]) (inb : ∀ a, off a + S1x16.size a ≤ S512x128.size a)
    (Ls : List (View.Piece (Elt F) S512x128 .f32)) (j : S512x128.Idx)
    (h : ¬ ((j 0).val = k ∧ n ≤ (j 1).val ∧ (j 1).val < n + 16) → hM.view.read (Elt F) (hM.view.writes (Elt F) f Ls) j = FloatOps.ofBits .f32 0x00000000#32) :
    hM.view.read (Elt F) (hM.view.writes (Elt F) f (⟨Rect.unit off S1x16.size inb, shapeCast S1x16 (k2_pay13 (F := F)) shapeCasts_S16_S1x16⟩ :: Ls)) j
      = FloatOps.ofBits .f32 0x00000000#32 := by
  rw [View.read_writes_cons_unit hM.view f inb _ Ls j hoff]
  split
  · rfl
  · rename_i hn
    refine h fun ⟨h0, h1, h2⟩ => hn fun a => ?_
    match a with
    | 0 => exact ⟨h0.ge, by show (j 0).val < k + 1; omega⟩
    | 1 => exact ⟨h1, h2⟩

/-- One trip of the zeroing loop zeroes one more row. -/
theorem zero_trip (k : Fin k2_t1_loop.trips) (f : Buf (Elt F) ((thr d L).loc cc2_scratch0)) (hf : ZeroBelow k.val f) :
    iprop(vpt (thr d L) hM f)
      ⊢ wp frame (wpE (defs₀ (F := F)) 𝒱₀ (thr d L) none) Set.univ
          (k2_t1_body (F := F) L wM (Memref.isWhole_whole _) oM (Memref.isWhole_whole _) hM (Memref.isWhole_whole _) iM (Memref.isWhole_whole _) cc2_scratch2 cc2_scratch3 cc2_scoped0 k ())
          fun _ => iprop(∃ f', ⌜ZeroBelow (F := F) (k.val + 1) f'⌝ ∗ vpt (thr d L) hM f') := by
  unfold k2_t1_body
  iintro H
  sl_exec
  sl_step
  iexists _; isplitr; swap
  · iexact H
  ipureintro
  intro j hj
  refine zero_cons d L f (k2_off9_eq k) _ _ j fun h9 => ?_
  refine zero_cons d L f (k2_off8_eq k) _ _ j fun h8 => ?_
  refine zero_cons d L f (k2_off7_eq k) _ _ j fun h7 => ?_
  refine zero_cons d L f (k2_off6_eq k) _ _ j fun h6 => ?_
  refine zero_cons d L f (k2_off5_eq k) _ _ j fun h5 => ?_
  refine zero_cons d L f (k2_off4_eq k) _ _ j fun h4 => ?_
  refine zero_cons d L f (k2_off3_eq k) _ _ j fun h3 => ?_
  refine zero_cons d L f (k2_off2_eq k) _ _ j fun h2 => ?_
  have h1 : (j 1).val < 128 := (j 1).isLt
  exact hf j (by omega)

/-! ## The scatter of sixteen words -/

theorem chk_lo (w : IVec S16 32) : k2_chk1 (k2_pay3 (F := F) w) (k2_pay4 (F := F) w) := by
  intro a x
  match a with
  | 0 =>
    show (((w x) &&& 65535#32) >>> (7#32 : BitVec 32)).toNat < 512
    have : ∀ b : BitVec 32, ((b &&& 65535#32) >>> (7#32 : BitVec 32)).toNat < 512 := fun b => by
      have : (b &&& 65535#32).toNat ≤ 65535 := by rw [BitVec.toNat_and]; exact Nat.and_le_right
      simp [Nat.shiftRight_eq_div_pow] at this ⊢; omega
    exact this _
  | 1 =>
    show ((w x &&& 65535#32) &&& 127#32).toNat < 128
    have : ((w x &&& 65535#32) &&& 127#32).toNat ≤ 127 := by rw [BitVec.toNat_and]; exact Nat.and_le_right
    omega

theorem chk_hi (w : IVec S16 32) : k2_chk1 (k2_pay5 (F := F) w) (k2_pay6 (F := F) w) := by
  intro a x
  match a with
  | 0 =>
    show (((w x) >>> (16#32 : BitVec 32)) >>> (7#32 : BitVec 32)).toNat < 512
    have : (w x).toNat < 2 ^ 32 := (w x).isLt
    simp [Nat.shiftRight_eq_div_pow]; omega
  | 1 =>
    show (((w x) >>> (16#32 : BitVec 32)) &&& 127#32).toNat < 128
    have : (((w x) >>> (16#32 : BitVec 32)) &&& 127#32).toNat ≤ 127 := by rw [BitVec.toNat_and]; exact Nat.and_le_right
    omega

/-- A histogram with one added at the bin of each word's low half, and at that of each word's high half. -/
def addLo (w : IVec S16 32) (h : Vec F S512x128 .f32) : Vec F S512x128 .f32 :=
  storeIdx h ![k2_pay3 (F := F) w, k2_pay4 (F := F) w] (k2_pay14 (F := F)) (fun _ => 1#1) true (k2_idx1_inb _ _ (chk_lo w))
def addHi (w : IVec S16 32) (h : Vec F S512x128 .f32) : Vec F S512x128 .f32 :=
  storeIdx h ![k2_pay5 (F := F) w, k2_pay6 (F := F) w] (k2_pay14 (F := F)) (fun _ => 1#1) true (k2_idx1_inb _ _ (chk_hi w))
/-- Both halves of sixteen words. -/
def addW (w : IVec S16 32) (h : Vec F S512x128 .f32) : Vec F S512x128 .f32 := addHi w (addLo w h)

/-- The sixteen words from number `n` on. -/
def wordsAt (tw : IVec S16384 32) (n : ℕ) : IVec S16 32 := fun j => tw (fun | 0 => ⟨(n + (j 0).val) % 16384, Nat.mod_lt _ (by decide)⟩)

/-- What trip `k` does to the histogram. -/
def tripF (tw : IVec S16384 32) (k : ℕ) (h : Vec F S512x128 .f32) : Vec F S512x128 .f32 :=
  addW (wordsAt tw (64 * k + 48)) (addW (wordsAt tw (64 * k + 32)) (addW (wordsAt tw (64 * k + 16)) (addW (wordsAt tw (64 * k)) h)))

/-- A load of sixteen words of the index buffer. -/
theorem step_load {α : Type} (g : Buf (Elt F) ((thr d L).loc cc2_scratch1)) {off : Fin 1 → ℕ} (n : ℕ) (hoff : off = ![n]) (inb : ∀ a, off a + S16.size a ≤ S16384.size a)
    (hl) (k : Vec F S16 .i32 → Prog (TpuEff nD τ sig (Elt F) Λ₀ (thr d L).2) α) (Q : α → sProp 𝕄) :
    iprop(vpt (thr d L) iM g ∗ (vpt (thr d L) iM g -∗ wp frame (wpE (defs₀ (F := F)) 𝒱₀ (thr d L) none) Set.univ (k (wordsAt g n)) Q))
      ⊢ wp frame (wpE (defs₀ (F := F)) 𝒱₀ (thr d L) none) Set.univ (Prog.op (.load iM (Rect.unit (s := S16384) off S16.size inb).toLoadRect hl) k) Q := by
  subst hoff
  have e : iM.view.readAt (Elt F) (Rect.unit (s := S16384) ![n] S16.size inb).toLoadRect g = wordsAt g n := by
    funext j
    refine congrArg g (funext fun a => Fin.ext ?_)
    match a with
    | 0 =>
      have h0 : n + 16 ≤ 16384 := inb 0
      have h1 : (j 0).val < 16 := (j 0).isLt
      show n + 1 * (j 0).val = (n + (j 0).val) % 16384
      rw [Nat.mod_eq_of_lt (by omega)]; omega
  rw [← e]
  iintro ⟨H, Hk⟩
  iapply (wp_load 𝒱₀ (thr d L) none Set.univ (m := iM) (S := Finset.univ) (Finset.subset_univ _)) $$ [H]
  · iexact H
  iintro H
  iapply Hk; iexact H

/-- One indexed scatter of ones over the histogram buffer. -/
theorem step_scat {α : Type} (f : Vec F S512x128 .f32) {r q : IVec S16 32} (c : k2_chk1 r q) (hh) (hs)
    (k : PUnit → Prog (TpuEff nD τ sig (Elt F) Λ₀ (thr d L).2) α) (Q : α → sProp 𝕄) :
    iprop(vpt (thr d L) hM f ∗ (vpt (thr d L) hM (storeIdx f ![r, q] (k2_pay14 (F := F)) (fun _ => 1#1) true (k2_idx1_inb _ _ c))
        -∗ wp frame (wpE (defs₀ (F := F)) 𝒱₀ (thr d L) none) Set.univ (k ⟨⟩) Q))
      ⊢ wp frame (wpE (defs₀ (F := F)) 𝒱₀ (thr d L) none) Set.univ ((SparseCore.vectorStoreIdx hM ![r, q] (k2_pay14 (F := F)) (fun _ => 1#1) true hh hs) >>= k) Q := by
  iintro ⟨H, Hk⟩
  have e : (hM.access (.whole S512x128)).set = Finset.univ := Memref.set_access_whole _
  have hr : (hM.access (.whole S512x128)).read (Elt F) f = f := Memref.read_access_whole (Elt F) cc2_scratch0 f
  have hw : ∀ w : Vec F S512x128 .f32, (hM.access (.whole S512x128)).write (Elt F) f w Finset.univ = w := fun w => Memref.write_access_whole_univ (Elt F) cc2_scratch0 f w
  iapply (SparseCore.wp_vectorStoreIdx 𝒱₀ (thr d L) none Set.univ (base := hM) (f := f)) $$ [H]
  · rw [e]; iexact H
  rw [e]
  iintro H
  iapply Hk
  iapply (Idealize.SL.BI.BIBase.Entails.of_eq ?_) $$ H
  refine congrArg (fun x => ((hM.view.loc (thr d L) ↦{fullShare} x : sProp 𝕄))) ?_
  refine (hw _).trans ?_
  rw [hr]

/-- The printed zeros, and the histogram after the first `n` trips over the words `tw`. -/
def zeroH : Vec F S512x128 .f32 := fun _ => FloatOps.ofBits .f32 0x00000000#32
def histF (tw : IVec S16384 32) : ℕ → Vec F S512x128 .f32
  | 0 => zeroH
  | n + 1 => tripF tw n (histF tw n)

/-- The words of tile number `wid`. -/
def tileW (wid : ℕ) (w : IVec S524288 32) : IVec S16384 32 :=
  fun j => w (fun | 0 => ⟨(16384 * wid + (j 0).val) % 524288, Nat.mod_lt _ (by decide)⟩)
/-- A tile's number. -/
abbrev wid (L : grid2.Coords) : ℕ := 16 * (L 0).val + (L 1).val

/-- The first half of a trip: thirty-two words. -/
theorem part1_trip (k : Fin k2_t2_loop.trips) (f : Vec F S512x128 .f32) (g : Buf (Elt F) ((thr d L).loc cc2_scratch1))
    (Q : BitVec 32 → sProp 𝕄) :
    iprop(vpt (thr d L) hM f ∗ vpt (thr d L) iM g
        ∗ (∀ r, (vpt (thr d L) hM (addW (wordsAt g (64 * k.val + 16)) (addW (F := F) (wordsAt g (64 * k.val)) f)) ∗ vpt (thr d L) iM g) -∗ Q r))
      ⊢ wp frame (wpE (defs₀ (F := F)) 𝒱₀ (thr d L) none) Set.univ
          (k2_part1 (F := F) L wM (Memref.isWhole_whole _) oM (Memref.isWhole_whole _) hM (Memref.isWhole_whole _) iM (Memref.isWhole_whole _) cc2_scratch2 cc2_scratch3 cc2_scoped0 (k2_pay14 (F := F)) 0#32 1#32 k) Q := by
  simp only [k2_part1_eq_skeleton]; unfold k2_part1_skel
  iintro ⟨H, HI, HQ⟩
  simp only [Prog.lift, Prog.bind_op, Prog.bind_ret, Prog.pure_eq_ret]
  iapply (step_load d L g _ (k2_off10_eq k))
  isplitl [HI]; · iexact HI
  iintro HI
  rw [wp_assume_of _ _ _ _ (show k2_chk1 (k2_pay3 (F := F) (wordsAt g (64 * k.val))) (k2_pay4 (F := F) (wordsAt g (64 * k.val))) from chk_lo (F := F) _)]
  iapply (step_scat d L _ (chk_lo (F := F) _))
  isplitl [H]; · iexact H
  iintro H
  rw [wp_assume_of _ _ _ _ (show k2_chk2 (k2_pay5 (F := F) (wordsAt g (64 * k.val))) (k2_pay6 (F := F) (wordsAt g (64 * k.val))) from chk_hi (F := F) _)]
  iapply (step_scat d L _ (chk_hi (F := F) _))
  isplitl [H]; · iexact H
  iintro H
  iapply (step_load d L g _ (k2_off11_eq k))
  isplitl [HI]; · iexact HI
  iintro HI
  rw [wp_assume_of _ _ _ _ (show k2_chk3 (k2_pay9 (F := F) (wordsAt g (64 * k.val + 16))) (k2_pay10 (F := F) (wordsAt g (64 * k.val + 16))) from chk_lo (F := F) _)]
  iapply (step_scat d L _ (chk_lo (F := F) _))
  isplitl [H]; · iexact H
  iintro H
  rw [wp_assume_of _ _ _ _ (show k2_chk4 (k2_pay11 (F := F) (wordsAt g (64 * k.val + 16))) (k2_pay12 (F := F) (wordsAt g (64 * k.val + 16))) from chk_hi (F := F) _)]
  iapply (step_scat d L _ (chk_hi (F := F) _))
  isplitl [H]; · iexact H
  iintro H
  rw [wp_ret]; imodintro
  iapply HQ
  isplitl [H]; · iexact H
  iexact HI

/-- One trip of the counting loop: sixty-four words. -/
theorem count_trip (k : Fin k2_t2_loop.trips) (f : Vec F S512x128 .f32) (g : Buf (Elt F) ((thr d L).loc cc2_scratch1)) :
    iprop(vpt (thr d L) hM f ∗ vpt (thr d L) iM g)
      ⊢ wp frame (wpE (defs₀ (F := F)) 𝒱₀ (thr d L) none) Set.univ
          (k2_t2_body (F := F) L wM (Memref.isWhole_whole _) oM (Memref.isWhole_whole _) hM (Memref.isWhole_whole _) iM (Memref.isWhole_whole _) cc2_scratch2 cc2_scratch3 cc2_scoped0 k ())
          fun _ => iprop(vpt (thr d L) hM (tripF (F := F) g k.val f) ∗ vpt (thr d L) iM g) := by
  unfold k2_t2_body
  iintro ⟨H, HI⟩
  simp only [wp_bind]
  iapply (part1_trip d L k f g)
  isplitl [H]; · iexact H
  isplitl [HI]; · iexact HI
  iintro %r ⟨H, HI⟩
  simp only [Prog.lift, Prog.bind_op, Prog.bind_ret, Prog.pure_eq_ret, ← wp_bind]
  iapply (step_load d L g _ (k2_off12_eq k))
  isplitl [HI]; · iexact HI
  iintro HI
  rw [wp_assume_of _ _ _ _ (show k2_chk5 (k2_pay17 (F := F) (wordsAt g (64 * k.val + 32))) (k2_pay18 (F := F) (wordsAt g (64 * k.val + 32))) from chk_lo (F := F) _)]
  iapply (step_scat d L _ (chk_lo (F := F) _))
  isplitl [H]; · iexact H
  iintro H
  rw [wp_assume_of _ _ _ _ (show k2_chk6 (k2_pay19 (F := F) (wordsAt g (64 * k.val + 32))) (k2_pay20 (F := F) (wordsAt g (64 * k.val + 32))) from chk_hi (F := F) _)]
  iapply (step_scat d L _ (chk_hi (F := F) _))
  isplitl [H]; · iexact H
  iintro H
  iapply (step_load d L g _ (k2_off13_eq k))
  isplitl [HI]; · iexact HI
  iintro HI
  rw [wp_assume_of _ _ _ _ (show k2_chk7 (k2_pay23 (F := F) (wordsAt g (64 * k.val + 48))) (k2_pay24 (F := F) (wordsAt g (64 * k.val + 48))) from chk_lo (F := F) _)]
  iapply (step_scat d L _ (chk_lo (F := F) _))
  isplitl [H]; · iexact H
  iintro H
  rw [wp_assume_of _ _ _ _ (show k2_chk8 (k2_pay25 (F := F) (wordsAt g (64 * k.val + 48))) (k2_pay26 (F := F) (wordsAt g (64 * k.val + 48))) from chk_hi (F := F) _)]
  iapply (step_scat d L _ (chk_hi (F := F) _))
  isplitl [H]; · iexact H
  iintro H
  rw [wp_ret]; imodintro
  isplitl [H]; · iexact H
  iexact HI

/-- The index buffer's two halves. -/
abbrev iLo : Memref sig .scVector .vmem S8192 .i32 := iM.slice (Rect.unit (s := S16384) ![0] S8192.size inb_S16384_S8192_0) (fun _ => rfl)
abbrev iHi : Memref sig .scVector .vmem S8192 .i32 := iM.slice (Rect.unit (s := S16384) ![8192] S8192.size inb_S16384_S8192_8192) (fun _ => rfl)
/-- A memref's own elements, at `f`. -/
abbrev spt (thr : Thread nD τ) {sp : Space} {S : Shape} {e : EltTy} (M : Memref sig thr.2.kind sp S e) (f : Buf (Elt F) (M.view.loc thr)) : sProp 𝕄 :=
  M.view.loc thr ↦[M.view.set]{fullShare} f

theorem mem_iLo (j : S16384.Idx) : j ∈ (iLo).view.set ↔ (j 0).val < 8192 := by
  rw [show (iLo).view.set = (Rect.unit (s := S16384) ![0] S8192.size inb_S16384_S8192_0).set from (View.set_slice _ _).trans Finset.map_refl, Rect.mem_set_unit]
  constructor
  · intro h; have := h 0; simpa using this.2
  · intro h a; match a with | 0 => exact ⟨Nat.zero_le _, by simpa using h⟩

theorem mem_iHi (j : S16384.Idx) : j ∈ (iHi).view.set ↔ 8192 ≤ (j 0).val := by
  rw [show (iHi).view.set = (Rect.unit (s := S16384) ![8192] S8192.size inb_S16384_S8192_8192).set from (View.set_slice _ _).trans Finset.map_refl, Rect.mem_set_unit]
  constructor
  · intro h; exact (h 0).1
  · intro h a; match a with | 0 => exact ⟨h, show (j 0).val < 8192 + 8192 from (j 0).isLt⟩

/-- The index buffer is its two halves. -/
theorem halves (g : Buf (Elt F) ((thr d L).loc cc2_scratch1)) : (vpt (thr d L) iM g : sProp 𝕄) = iprop(spt (thr d L) iLo g ∗ spt (thr d L) iHi g) := by
  have hd : Disjoint (iLo).view.set (iHi).view.set := Finset.disjoint_left.mpr fun j h1 h2 => by
    have := (mem_iLo j).mp h1; have := (mem_iHi j).mp h2; omega
  have hu : (iLo).view.set ∪ (iHi).view.set = Finset.univ := Finset.eq_univ_iff_forall.mpr fun j => Finset.mem_union.mpr <| by
    rw [mem_iLo, mem_iHi]; omega
  unfold vpt spt
  rw [← hu]
  exact Idealize.SL.BI.Entails.antisymm (pointsTo_union hd).1 (pointsTo_union hd).2

/-- An element of a view's set is an index's image, and contents that the view reads as `r` hold `r` there. -/
theorem of_mem_set {κ : Kind} {sp : Space} {S : Shape} {e : EltTy} (v : View sig κ sp S e) (f : v.ty.Contents (Elt F)) (r : S.Idx → Elt F e)
    (h : v.read (Elt F) f = r) {j} (hj : j ∈ v.set) : ∃ x, v.emb x = j ∧ HEq (f j) (r x) := by
  obtain ⟨x, -, rfl⟩ := Finset.mem_map.mp hj
  refine ⟨x, rfl, ?_⟩
  subst h
  simp [View.read_apply]

/-- A half's landed contents, on its elements, are the tile's words. -/
theorem lo_lands (w : Buf (Elt F) (wM.view.loc (thr d L))) (g : Buf (Elt F) ((thr d L).loc cc2_scratch1)) (r : S8192.Idx → BitVec 32)
    (hr : r = (wM.slice (Rect.unit (s := S524288) (k2_off1 L 0#32) S8192.size (k2_off1_inb L 0)) (fun _ => rfl)).view.read (Elt F) w) (j : S16384.Idx) (hj : j ∈ (iLo).view.set) :
    (iLo).view.writes (Elt F) g [⟨Rect.whole S8192, r⟩] j = tileW (wid L) w j := by
  obtain ⟨x, hx, e⟩ := of_mem_set (iLo).view _ r (View.read_writes_whole (iLo).view g r) hj
  have ej : (j 0).val = 0 + 1 * (x 0).val := by rw [← hx]; rfl
  refine (eq_of_heq e).trans ?_
  rw [hr]
  refine congrArg w (funext fun a => Fin.ext ?_)
  match a with
  | 0 =>
    have h0 : (L 0).val < 2 := (L 0).isLt
    have h1 : (L 1).val < 16 := (L 1).isLt
    have hx : (x 0).val < 8192 := (x 0).isLt
    show k2_off1 L 0#32 0 + 1 * (x 0).val = (16384 * (16 * (L 0).val + (L 1).val) + (j 0).val) % 524288
    rw [show k2_off1 L 0#32 = _ from k2_off1_eq L 0, ej, Nat.mod_eq_of_lt (by omega)]
    show 262144 * (L 0).val + 16384 * (L 1).val + 8192 * 0 + 1 * (x 0).val = _
    omega

theorem hi_lands (w : Buf (Elt F) (wM.view.loc (thr d L))) (g : Buf (Elt F) ((thr d L).loc cc2_scratch1)) (r : S8192.Idx → BitVec 32)
    (hr : r = (wM.slice (Rect.unit (s := S524288) (k2_off1 L 8192#32) S8192.size (k2_off1_inb L 1)) (fun _ => rfl)).view.read (Elt F) w) (j : S16384.Idx) (hj : j ∈ (iHi).view.set) :
    (iHi).view.writes (Elt F) g [⟨Rect.whole S8192, r⟩] j = tileW (wid L) w j := by
  obtain ⟨x, hx, e⟩ := of_mem_set (iHi).view _ r (View.read_writes_whole (iHi).view g r) hj
  have ej : (j 0).val = 8192 + 1 * (x 0).val := by rw [← hx]; rfl
  refine (eq_of_heq e).trans ?_
  rw [hr]
  refine congrArg w (funext fun a => Fin.ext ?_)
  match a with
  | 0 =>
    have h0 : (L 0).val < 2 := (L 0).isLt
    have h1 : (L 1).val < 16 := (L 1).isLt
    have hx : (x 0).val < 8192 := (x 0).isLt
    show k2_off1 L 8192#32 0 + 1 * (x 0).val = (16384 * (16 * (L 0).val + (L 1).val) + (j 0).val) % 524288
    rw [show k2_off1 L 8192#32 = _ from k2_off1_eq L 1, ej, Nat.mod_eq_of_lt (by omega)]
    show 262144 * (L 0).val + 16384 * (L 1).val + 8192 * 1 + 1 * (x 0).val = _
    omega

theorem lo_pts (w : Buf (Elt F) (wM.view.loc (thr d L))) (g : Buf (Elt F) ((thr d L).loc cc2_scratch1)) :
    (spt (thr d L) iLo ((iLo).view.writes (Elt F) g [⟨Rect.whole S8192,
        ReadAs.same.apply ((wM.slice (Rect.unit (s := S524288) (k2_off1 L 0#32) S8192.size (k2_off1_inb L 0)) (fun _ => rfl)).view.read (Elt F) w)⟩]) : sProp 𝕄)
      = spt (thr d L) iLo (tileW (wid L) w) :=
  pointsTo_congr fun j hj => lo_lands d L w g _ rfl j hj

theorem hi_pts (w : Buf (Elt F) (wM.view.loc (thr d L))) (g : Buf (Elt F) ((thr d L).loc cc2_scratch1)) :
    (spt (thr d L) iHi ((iHi).view.writes (Elt F) g [⟨Rect.whole S8192,
        ReadAs.same.apply ((wM.slice (Rect.unit (s := S524288) (k2_off1 L 8192#32) S8192.size (k2_off1_inb L 1)) (fun _ => rfl)).view.read (Elt F) w)⟩]) : sProp 𝕄)
      = spt (thr d L) iHi (tileW (wid L) w) :=
  pointsTo_congr fun j hj => hi_lands d L w g _ rfl j hj

/-- The zeroing loop's and the counting loop's invariants. -/
def zInv (k : ℕ) (_ : PUnit) : sProp 𝕄 := iprop(∃ f, ⌜ZeroBelow (F := F) k f⌝ ∗ vpt (thr d L) hM f)
def cInv (tw : IVec S16384 32) (k : ℕ) (_ : PUnit) : sProp 𝕄 := iprop(vpt (thr d L) hM (histF (F := F) tw k) ∗ vpt (thr d L) iM tw)

/-- The kernel up to its last copy: the histogram of the tile's words. -/
theorem part2_run (O : CellTallies nD τ sig (HIx 1)) (W : Waits sig (HIx 1)) (hO : ∀ g, O g none = 0) (q : PosShare TreeShare)
    (w : Buf (Elt F) (wM.view.loc (thr d L))) (f : Buf (Elt F) ((thr d L).loc cc2_scratch0)) (g : Buf (Elt F) ((thr d L).loc cc2_scratch1)) :
    iprop(levAts (K (F := F)).L (K (F := F)).lev ∗ vptq (thr d L) q wM w ∗ vpt (thr d L) hM f ∗ vpt (thr d L) iM g
        ∗ semVal (thr d L, SemLoc.dma cc2_scratch2.sem) 0 ∗ semVal (thr d L, SemLoc.dma cc2_scratch3.sem) 0 ∗ owes (thr d L) O W)
      ⊢ wp frame (wpE (defs₀ (F := F)) 𝒱₀ (thr d L) none) Set.univ
          (k2_part2 (F := F) L wM (Memref.isWhole_whole _) oM (Memref.isWhole_whole _) hM (Memref.isWhole_whole _) iM (Memref.isWhole_whole _) cc2_scratch2 cc2_scratch3 cc2_scoped0)
          fun _ => iprop(vptq (thr d L) q wM w ∗ vpt (thr d L) hM (histF (F := F) (tileW (wid L) w) 256) ∗ (∃ g, vpt (thr d L) iM g)
            ∗ semVal (thr d L, SemLoc.dma cc2_scratch2.sem) 0 ∗ semVal (thr d L, SemLoc.dma cc2_scratch3.sem) 0
            ∗ ∃ W', ⌜∀ p ∈ W', p ∈ W ∨ p.2 = none⌝ ∗ owes (thr d L) O W') := by
  simp only [k2_part2_eq_skeleton]; unfold k2_part2_skel
  iintro ⟨#Hlv, Hw, H, HI, HsA, HsB, HO⟩
  ihave Hmw := ((K (F := F)).mayWaits_none (thr := thr d L) hO) $$ Hlv
  ihave HI2 := (Idealize.SL.BI.BIBase.Entails.of_eq (halves d L g)) $$ HI
  icases HI2 with ⟨HI, HJ⟩
  sl_exec (disch := exact View.amount_pos _ _ (show 0 < S8192.numel by decide))
  sl_for (zInv (F := F) d L) $$ [H]
  case region =>
    intro k _
    unfold zInv
    iintro ⟨%f', %hf', H⟩
    iapply (zero_trip d L k f' hf')
    iexact H
  · unfold zInv
    iexists f; isplitr
    · ipureintro; intro j hj; exact absurd hj (Nat.not_lt_zero _)
    · iexact H
  iintro %_ HZ
  unfold zInv
  icases HZ with ⟨%f', %hf', H⟩
  have e0 : f' = zeroH (F := F) := funext fun j => hf' j (j 0).isLt
  subst e0
  sl_exec (disch := exact View.amount_pos _ _ (show 0 < S8192.numel by decide))
  sl_unfold_run_names
  ihave HI' := (Idealize.SL.BI.BIBase.Entails.of_eq (lo_pts d L w _)) $$ HI
  ihave HJ' := (Idealize.SL.BI.BIBase.Entails.of_eq (hi_pts d L w _)) $$ HJ
  ihave HI := (Idealize.SL.BI.BIBase.Entails.of_eq (halves (F := F) d L (tileW (wid L) w)).symm) $$ [HI' HJ']
  · isplitl [HI']; · iexact HI'
    iexact HJ'
  sl_for (cInv (F := F) d L (tileW (wid L) w)) $$ [H HI]
  case region =>
    intro k _
    unfold cInv
    iintro ⟨H, HI⟩
    iapply (count_trip d L k _ (tileW (wid L) w))
    isplitl [H]; · iexact H
    iexact HI
  · unfold cInv
    isplitl [H]; · iexact H
    iexact HI
  iintro %_ HC
  unfold cInv
  icases HC with ⟨H, HI⟩
  sl_step
  isplitl [Hw]; · iexact Hw
  isplitl [H]; · iexact H
  isplitl [HI]; · iexists _; iexact HI
  isplitl [HsA]; · iexact HsA
  isplitl [HsB]; · iexact HsB
  iexists (insert (SemLoc.dma cc2_scratch3.sem, (default : HIx 1)) (insert (SemLoc.dma cc2_scratch2.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

/-! ## The tile's row of the result -/

/-- The elements of row `n` of the stacked histograms. -/
def rowSet (n : ℕ) : Finset S32x512x128.Idx := Finset.univ.filter fun j => (j 0).val = n
/-- The stacked histograms of the words `w`: row `n` is tile `n`'s. -/
def outV (w : IVec S524288 32) : Vec F S32x512x128 .f32 := fun j => histF (F := F) (tileW (j 0).val w) 256 (fun | 0 => j 1 | 1 => j 2)

abbrev rowM : Memref sig .scVector .hbm S512x128 .f32 :=
  (oM.slice (Rect.unit (s := S32x512x128) (k2_off14 L) S1x512x128.size (k2_off14_inb L)) (fun _ => rfl)).squeeze S512x128 squeezes_S1x512x128_S512x128

theorem rowM_set : (rowM L).view.set = rowSet (wid L) := by
  have e : (rowM L).view.set = (Rect.unit (s := S32x512x128) (k2_off14 L) S1x512x128.size (k2_off14_inb L)).set :=
    (View.set_reshape _ _).trans ((View.set_slice _ _).trans Finset.map_refl)
  rw [e]
  ext j
  rw [Rect.mem_set_unit, rowSet, Finset.mem_filter, k2_off14_eq]
  constructor
  · intro h
    have h0 : 16 * (L 0).val + (L 1).val ≤ (j 0).val ∧ (j 0).val < 16 * (L 0).val + (L 1).val + 1 := h 0
    exact ⟨Finset.mem_univ _, by unfold wid; omega⟩
  · rintro ⟨-, h⟩ a
    match a with
    | 0 => show 16 * (L 0).val + (L 1).val ≤ (j 0).val ∧ (j 0).val < 16 * (L 0).val + (L 1).val + 1
           unfold wid at h; omega
    | 1 => exact ⟨Nat.zero_le _, show (j 1).val < 0 + 512 from (Nat.zero_add 512).symm ▸ (j 1).isLt⟩
    | 2 => exact ⟨Nat.zero_le _, show (j 2).val < 0 + 128 from (Nat.zero_add 128).symm ▸ (j 2).isLt⟩

/-- Where the output row's elements lie in the stacked histograms. -/
theorem rowM_emb (x : S512x128.Idx) : ((rowM L).view.emb x 1).val = (x 0).val ∧ ((rowM L).view.emb x 2).val = (x 1).val := by
  have hx : Shape.reshapeEquiv (s := S1x512x128) (s' := S512x128) squeezes_S1x512x128_S512x128.numel_eq x = (Fin.cons ⟨0, Nat.one_pos⟩ x : S1x512x128.Idx) :=
    Shape.reshapeEquiv_cons_one _ x
  constructor
  · show k2_off14 L 1 + 1 * (Shape.reshapeEquiv (s := S1x512x128) (s' := S512x128) squeezes_S1x512x128_S512x128.numel_eq x 1).val = _
    rw [hx, k2_off14_eq]
    show 0 + 1 * (x 0).val = _
    omega
  · show k2_off14 L 2 + 1 * (Shape.reshapeEquiv (s := S1x512x128) (s' := S512x128) squeezes_S1x512x128_S512x128.numel_eq x 2).val = _
    rw [hx, k2_off14_eq]
    show 0 + 1 * (x 1).val = _
    omega

/-- The output row's landed contents, on its elements, are the stacked histograms. -/
theorem row_lands (w : IVec S524288 32) (o : Buf (Elt F) (oM.view.loc (thr d L))) (r : Vec F S512x128 .f32)
    (hr : r = histF (F := F) (tileW (wid L) w) 256) (j : S32x512x128.Idx) (hj : j ∈ (rowM L).view.set) :
    (rowM L).view.writes (Elt F) o [⟨Rect.whole S512x128, r⟩] j = outV (F := F) w j := by
  obtain ⟨x, hx, e⟩ := of_mem_set (rowM L).view _ r (View.read_writes_whole (rowM L).view o r) hj
  have h0 : (j 0).val = wid L := by
    rw [rowM_set, rowSet, Finset.mem_filter] at hj
    exact hj.2
  obtain ⟨h1, h2⟩ := rowM_emb L x
  rw [hx] at h1 h2
  refine (eq_of_heq e).trans ?_
  subst hr
  unfold outV
  rw [h0]
  refine congrArg _ (funext fun a => Fin.ext ?_)
  match a with
  | 0 => exact h1.symm
  | 1 => exact h2.symm

theorem row_pts (w : IVec S524288 32) (o : Buf (Elt F) (oM.view.loc (thr d L))) :
    (spt (thr d L) (rowM L) ((rowM L).view.writes (Elt F) o [⟨Rect.whole S512x128,
        ReadAs.same.apply (hM.view.read (Elt F) (histF (F := F) (tileW (wid L) w) 256))⟩]) : sProp 𝕄)
      = spt (thr d L) (rowM L) (outV (F := F) w) :=
  pointsTo_congr fun j hj => row_lands d L w o _ rfl j hj

theorem row_run (O : CellTallies nD τ sig (HIx 1)) (W : Waits sig (HIx 1)) (hO : ∀ g, O g none = 0) (q : PosShare TreeShare)
    (w : Buf (Elt F) (wM.view.loc (thr d L))) (f : Buf (Elt F) ((thr d L).loc cc2_scratch0)) (g : Buf (Elt F) ((thr d L).loc cc2_scratch1))
    (o : Buf (Elt F) (oM.view.loc (thr d L))) :
    iprop(levAts (K (F := F)).L (K (F := F)).lev ∗ vptq (thr d L) q wM w ∗ spt (thr d L) (rowM L) o ∗ vpt (thr d L) hM f ∗ vpt (thr d L) iM g
        ∗ semVal (thr d L, SemLoc.dma cc2_scratch2.sem) 0 ∗ semVal (thr d L, SemLoc.dma cc2_scratch3.sem) 0 ∗ semVal (thr d L, SemLoc.dma cc2_scoped0.sem) 0 ∗ owes (thr d L) O W)
      ⊢ wp frame (wpE (defs₀ (F := F)) 𝒱₀ (thr d L) none) Set.univ
          (cc2_k (F := F) L wM (Memref.isWhole_whole _) oM (Memref.isWhole_whole _) hM (Memref.isWhole_whole _) iM (Memref.isWhole_whole _) cc2_scratch2 cc2_scratch3 cc2_scoped0)
          fun _ => iprop(vptq (thr d L) q wM w ∗ spt (thr d L) (rowM L) (outV (F := F) w) ∗ (∃ f, vpt (thr d L) hM f) ∗ (∃ g, vpt (thr d L) iM g)
            ∗ semVal (thr d L, SemLoc.dma cc2_scratch2.sem) 0 ∗ semVal (thr d L, SemLoc.dma cc2_scratch3.sem) 0 ∗ semVal (thr d L, SemLoc.dma cc2_scoped0.sem) 0
            ∗ ∃ W', ⌜∀ p ∈ W', p ∈ W ∨ p.2 = none⌝ ∗ owes (thr d L) O W') := by
  simp only [cc2_k_eq_skeleton]; unfold cc2_k_skel
  iintro ⟨#Hlv, Hw, Ho, H, HI, HsA, HsB, HsC, HO⟩
  simp only [wp_bind]
  ihave HP := (part2_run d L O W hO q w f g) $$ [Hw H HI HsA HsB HO]
  · isplitr; · iexact Hlv
    isplitl [Hw]; · iexact Hw
    isplitl [H]; · iexact H
    isplitl [HI]; · iexact HI
    isplitl [HsA]; · iexact HsA
    isplitl [HsB]; · iexact HsB
    iexact HO
  iapply (wp_wand frame (wpE (defs₀ (F := F)) 𝒱₀ (thr d L) none) Set.univ) $$ HP
  iintro %_ ⟨Hw, H, ⟨%g', HI⟩, HsA, HsB, %W', %hW', HO⟩
  ihave Hmw := ((K (F := F)).mayWaits_none (thr := thr d L) hO) $$ Hlv
  simp only [← wp_bind]
  sl_exec (disch := exact View.amount_pos _ _ (show 0 < S512x128.numel by decide))
  sl_unfold_run_names
  ihave Ho := (Idealize.SL.BI.BIBase.Entails.of_eq (row_pts d L w o)) $$ Ho
  sl_step
  isplitl [Hw]; · iexact Hw
  isplitl [Ho]; · iexact Ho
  isplitl [H]
  · iexists (histF (F := F) (tileW (wid L) w) 256); iexact H
  isplitl [HI]
  · iexists g'; iexact HI
  isplitl [HsA]; · iexact HsA
  isplitl [HsB]; · iexact HsB
  isplitl [HsC]; · iexact HsC
  iexists (insert (SemLoc.dma cc2_scoped0.sem, default) W')
  isplitr
  · ipureintro
    intro p hp
    rcases Finset.mem_insert.mp hp with rfl | hp
    · exact Or.inr rfl
    · exact hW' p hp
  iexact HO

end Trips

end Cert.Proof.IdealRun

end
-- ==== Proof.Ideal.Launch.lean ====
module

public import proofs.«01_k».proof.Proof.Ideal.Tile
public import Idealize.ShloMosaic.Lib.Transfers

@[expose] public section

set_option maxRecDepth 16384

noncomputable section

namespace Cert.Proof.IdealRun

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (Pay tileRest ownBufs ownSems0 ownCells ownRefs mem_ownCells mem_ownRefs)

variable {F : FTy → Type} [FloatOps F]

local notation "𝕄" => MT nD τ sig (HIx 1) (Elt F) ℕ UU ℕ

/-! ## What the SparseCore call takes and brings back -/

abbrev wLoc (d : Dev nD) : Loc nD τ sig := (SparseCore.T d : Thread nD τ).loc main_v2
abbrev oLoc (d : Dev nD) : Loc nD τ sig := (SparseCore.T d : Thread nD τ).loc main_v3

/-- Tile `(a, b)`'s share of the words, which every tile reads. -/
def tq (a : Fin 2) (b : Fin 16) : PosShare TreeShare := Transfers.dealOf (Transfers.dealOf fullShare Finset.univ a) Finset.univ b

/-- What tile `(a, b)` takes, its share of the words and its own output row, and what it brings back. -/
abbrev goPts (w : IVec S524288 32) (d : Dev nD) (a : Fin 2) (b : Fin 16) : sProp 𝕄 :=
  iprop((wLoc d ↦{tq a b} (w : Buf (Elt F) (wLoc d))) ∗ ∃ f, oLoc d ↦[rowSet (16 * a.val + b.val)]{fullShare} f)
abbrev tdPts (w : IVec S524288 32) (d : Dev nD) (a : Fin 2) (b : Fin 16) : sProp 𝕄 :=
  iprop((wLoc d ↦{tq a b} (w : Buf (Elt F) (wLoc d))) ∗ oLoc d ↦[rowSet (16 * a.val + b.val)]{fullShare} (outV (F := F) w : Buf (Elt F) (oLoc d)))

theorem nCore_zero : (K (F := F)).nCore 0 = 2 := rfl
theorem nSub_zero : (K (F := F)).nSub 0 = 16 := rfl

/-- The one call's payloads: each core takes what its tiles take and brings back what they bring back. -/
def P (w : Dev nD → IVec S524288 32) : (K (F := F)).Pay (nD := nD) (Val := Elt F) (Name := ℕ) (U := UU) where
  st := fun q d c => match q with | 0 => bigSep Finset.univ fun i : Fin 16 => goPts (w d) d (Fin.cast nCore_zero c) i
  dn := fun q d c => match q with | 0 => bigSep Finset.univ fun i : Fin 16 => tdPts (w d) d (Fin.cast nCore_zero c) i
  go := fun q d c i => match q with | 0 => goPts (w d) d (Fin.cast nCore_zero c) (Fin.cast nSub_zero i)
  td := fun q d c i => match q with | 0 => tdPts (w d) d (Fin.cast nCore_zero c) (Fin.cast nSub_zero i)
  x := fun _ _ => iprop(emp)

instance P_storable (w : Dev nD → IVec S524288 32) : (P (F := F) w).IsStorable where
  st q d c := match q with
    | 0 => (inferInstance : BI.Storable (upEmb : UEmb _ 𝕄) (bigSep Finset.univ fun i : Fin 16 => goPts (w d) d (Fin.cast nCore_zero c) i))
  dn q d c := match q with
    | 0 => (inferInstance : BI.Storable (upEmb : UEmb _ 𝕄) (bigSep Finset.univ fun i : Fin 16 => tdPts (w d) d (Fin.cast nCore_zero c) i))
  go q d c i := match q with
    | 0 => (inferInstance : BI.Storable (upEmb : UEmb _ 𝕄) (goPts (w d) d (Fin.cast nCore_zero c) (Fin.cast nSub_zero i)))
  td q d c i := match q with
    | 0 => (inferInstance : BI.Storable (upEmb : UEmb _ 𝕄) (tdPts (w d) d (Fin.cast nCore_zero c) (Fin.cast nSub_zero i)))

/-- A core's tiles take exactly what the core takes. -/
theorem vecSplit (w : Dev nD → IVec S524288 32) : (K (F := F)).VecSplit' (P w) 0 := by
  intro d c
  show (bigSep Finset.univ fun i : Fin 16 => goPts (F := F) (w d) d (Fin.cast nCore_zero c) i) ⊢ |={Set.univ}=> iprop(
      (bigSep Finset.univ fun i : Fin 16 => goPts (F := F) (w d) d (Fin.cast nCore_zero c) i)
      ∗ ((bigSep Finset.univ fun i : Fin 16 => tdPts (F := F) (w d) d (Fin.cast nCore_zero c) i)
        -∗ bigSep Finset.univ fun i : Fin 16 => tdPts (F := F) (w d) d (Fin.cast nCore_zero c) i))
  iintro H
  imodintro
  isplitl [H]; · iexact H
  iintro H; iexact H

/-! ## A tile's obligation -/

section Obl

variable (d : Dev nD) (L : grid2.Coords)

abbrev cellA : GSem nD τ sig := (thr d L, SemLoc.dma cc2_scratch2.sem)
abbrev cellB : GSem nD τ sig := (thr d L, SemLoc.dma cc2_scratch3.sem)
abbrev cellC : GSem nD τ sig := (thr d L, SemLoc.dma cc2_scoped0.sem)

/-- The three semaphores the tile uses are among its own. -/
theorem ownSems0_V :
    (ownSems0 (thr d L) : sProp 𝕄)
      = iprop(semVal (cellA d L) 0 ∗ semVal (cellB d L) 0 ∗ semVal (cellC d L) 0
          ∗ bigSep ((((ownCells (thr d L)).erase (cellA d L)).erase (cellB d L)).erase (cellC d L)) fun g => semVal g 0) := by
  unfold SparseCore.Cfg.ownSems0
  rw [SparseCore.bigSep_erase' ((mem_ownCells (g := cellA d L)).mpr ⟨rfl, by show (SemLoc.dma cc2_scratch2.sem : SemLoc sig).isScoped .scVector = true; decide⟩),
    SparseCore.bigSep_erase' (Finset.mem_erase.mpr ⟨by simp [cellA, cellB]; decide,
      (mem_ownCells (g := cellB d L)).mpr ⟨rfl, by show (SemLoc.dma cc2_scratch3.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc2_scoped0.sem : SemLoc sig).isScoped .scVector = true; decide⟩⟩⟩)]

/-- The two scratch buffers the tile uses are among its own. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- The tile's output row, held as its memref's elements and as the stacked histograms' row. -/
theorem row_held (f : Buf (Elt F) (oLoc d)) : (spt (thr d L) (rowM L) (f : Buf (Elt F) (oM.view.loc (thr d L))) : sProp 𝕄) = (oLoc d ↦[rowSet (wid L)]{fullShare} f) := by
  show ((rowM L).view.loc (thr d L) ↦[(rowM L).view.set]{fullShare} f) = _
  rw [rowM_set]

/-- Tile `L`'s task: from its share of the words and its output row it leaves its histogram in the row. -/
theorem tile_body (hF : (K (F := F)).Facts) (w : IVec S524288 32) (O : CellTallies nD τ sig (HIx 1)) (W : Waits sig (HIx 1)) (hO : ∀ g, O g none = 0) :
    iprop(levAts (K (F := F)).L (K (F := F)).lev ∗ emp ∗ goPts (F := F) w d (L 0) (L 1)
        ∗ scopedBufs (thr d L) ∗ scopedSems0 (thr d L) ∗ owes (thr d L) O W)
      ⊢ wp frame (wpE (defs₀ (F := F)) 𝒱₀ (thr d L) none) Set.univ
          (cc2_k (F := F) L wM (Memref.isWhole_whole _) oM (Memref.isWhole_whole _) hM (Memref.isWhole_whole _) iM (Memref.isWhole_whole _) cc2_scratch2 cc2_scratch3 cc2_scoped0)
          fun _ => iprop(tdPts (F := F) w d (L 0) (L 1) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hw, %o, Ho⟩, ⟨⟨%f, H⟩, ⟨%g, HI⟩, Hbufs⟩, ⟨HsA, HsB, HsC, Hsems⟩, HO⟩
  ihave Ho := (Idealize.SL.BI.BIBase.Entails.of_eq (row_held (F := F) d L o).symm) $$ Ho
  ihave HP := (row_run d L O W hO (tq (L 0) (L 1)) w f g o) $$ [Hw Ho H HI HsA HsB HsC HO]
  · isplitr; · iexact Hlv
    isplitl [Hw]; · iexact Hw
    isplitl [Ho]; · iexact Ho
    isplitl [H]; · iexact H
    isplitl [HI]; · iexact HI
    isplitl [HsA]; · iexact HsA
    isplitl [HsB]; · iexact HsB
    isplitl [HsC]; · iexact HsC
    iexact HO
  iapply (wp_wand frame (wpE (defs₀ (F := F)) 𝒱₀ (thr d L) none) Set.univ) $$ HP
  iintro %_ ⟨Hw, Ho, ⟨%f', H⟩, ⟨%g', HI⟩, HsA, HsB, HsC, HO⟩
  ihave Ho := (Idealize.SL.BI.BIBase.Entails.of_eq (row_held (F := F) d L (outV (F := F) w))) $$ Ho
  isplitl [Hw Ho]
  · isplitl [Hw]; · iexact Hw
    iexact Ho
  isplitl [H HI Hbufs]
  · isplitl [H]; · iexists f'; iexact H
    isplitl [HI]; · iexists g'; iexact HI
    iexact Hbufs
  isplitl [HsA HsB HsC Hsems]
  · isplitl [HsA]; · iexact HsA
    isplitl [HsB]; · iexact HsB
    isplitl [HsC]; · iexact HsC
    iexact Hsems
  iexact HO

end Obl

/-- A tile's coordinates in its grid. -/
def coordsV (c : Fin 2) (s : Fin 16) : grid2.Coords := fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_k (F := F) (coordsV c s) wM (Memref.isWhole_whole _) oM (Memref.isWhole_whole _)
          hM (Memref.isWhole_whole _) iM (Memref.isWhole_whole _) cc2_scratch2 cc2_scratch3 cc2_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets its obligation. -/
theorem tileObl (hF : (K (F := F)).Facts) (w : Dev nD → IVec S524288 32) : (K (F := F)).TileObl (D (F := F)) 𝒱 (P w) v₀ 0 := by
  intro d c i O W hO _ _
  simp only [show (P (F := F) w).ox = fun _ _ => 0 from rfl, add_zero]
  change _ ⊢ wp _ _ _ (Pipeline.liftProg (defs₀ (F := F) (.scVector ((K (F := F)).core 0 c) ((K (F := F)).sub 0 i)) 2 ())) _
  refine Idealize.SL.BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body d (coordsV ⟨_, hc.1⟩ ⟨_, hc.2⟩) hF (w d) O W hO).trans (wp_mono frame _ _ fun _ => obl_post)

end Cert.Proof.IdealRun

end
-- ==== Proof.Ideal.Main.lean ====
module

public import proofs.«01_k».proof.Proof.Ideal.Launch
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 16384

noncomputable section

namespace Cert.Proof.IdealRun

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The words and the output, dealt to the tiles -/

/-- The words whole are the tiles' shares of them. -/
theorem words_deal (d : Dev nD) (f : Buf (Elt F) (wLoc d)) :
    (wLoc d ↦{fullShare} f : sProp 𝕄) = bigSep Finset.univ fun a : Fin 2 => bigSep Finset.univ fun b : Fin 16 => wLoc d ↦{tq a b} f := by
  rw [Transfers.pointsTo_deal (Finset.univ : Finset (Fin 2)) Finset.univ_nonempty fullShare]
  exact bigSep_congr fun a _ => Transfers.pointsTo_deal (Finset.univ : Finset (Fin 16)) Finset.univ_nonempty _

theorem rows_disjoint {n n' : ℕ} (h : n ≠ n') : Disjoint (rowSet n) (rowSet n') := Finset.disjoint_left.mpr fun j h1 h2 => by
  have h1 := (Finset.mem_filter.mp h1).2
  have h2 := (Finset.mem_filter.mp h2).2
  exact h (h1.symm.trans h2)

/-- The rows of core `a`'s tiles. -/
def halfSet (a : Fin 2) : Finset S32x512x128.Idx := (Finset.univ : Finset (Fin 16)).biUnion fun b => rowSet (16 * a.val + b.val)

theorem mem_halfSet (a : Fin 2) (j : S32x512x128.Idx) : j ∈ halfSet a ↔ (j 0).val / 16 = a.val := by
  unfold halfSet rowSet
  simp only [Finset.mem_biUnion, Finset.mem_univ, true_and, Finset.mem_filter]
  constructor
  · rintro ⟨b, h⟩; have := b.isLt; omega
  · intro h; exact ⟨⟨(j 0).val % 16, Nat.mod_lt _ (by decide)⟩, by show (j 0).val = 16 * a.val + (j 0).val % 16; omega⟩

theorem halves_cover : (Finset.univ : Finset (Fin 2)).biUnion halfSet = Finset.univ := Finset.eq_univ_iff_forall.mpr fun j => by
  have hj : (j 0).val < 32 := (j 0).isLt
  rw [Finset.mem_biUnion]
  exact ⟨⟨(j 0).val / 16, by omega⟩, Finset.mem_univ _, (mem_halfSet _ j).mpr rfl⟩

/-- The output whole is the tiles' rows of it. -/
theorem out_deal (d : Dev nD) (g : Buf (Elt F) (oLoc d)) :
    (oLoc d ↦{fullShare} g : sProp 𝕄)
      = bigSep Finset.univ fun a : Fin 2 => bigSep Finset.univ fun b : Fin 16 => oLoc d ↦[rowSet (16 * a.val + b.val)]{fullShare} g := by
  have h := pointsTo_biUnion (ℓ := oLoc d) (q := fullShare) (f := g) (Finset.univ : Finset (Fin 2)) halfSet
    (fun a _ a' _ h => Finset.disjoint_left.mpr fun j h1 h2 => h (Fin.ext (((mem_halfSet a j).mp h1).symm.trans ((mem_halfSet a' j).mp h2))))
    (Ix := HIx 1) (Name := ℕ) (U := UU) (Lvl := ℕ)
  rw [halves_cover] at h
  refine h.trans (bigSep_congr fun a _ => ?_)
  exact pointsTo_biUnion (ℓ := oLoc d) (q := fullShare) (f := g) (Finset.univ : Finset (Fin 16)) (fun b => rowSet (16 * a.val + b.val))
    (fun b _ b' _ h => rows_disjoint fun e => h (Fin.ext (by omega)))

theorem go_intro (w : Dev nD → IVec S524288 32) (d : Dev nD) (a : Fin 2) (b : Fin 16) (g : Buf (Elt F) (oLoc d)) :
    iprop((wLoc d ↦{tq a b} (w d : Buf (Elt F) (wLoc d))) ∗ oLoc d ↦[rowSet (16 * a.val + b.val)]{fullShare} g) ⊢ (goPts (F := F) (w d) d a b : sProp 𝕄) := by
  iintro ⟨Hw, Ho⟩
  isplitl [Hw]; · iexact Hw
  iexists g; iexact Ho

/-- What the call takes, from the words and the output whole. -/
theorem st_intro (w : Dev nD → IVec S524288 32) (d : Dev nD) (g : Buf (Elt F) (oLoc d)) :
    iprop((wLoc d ↦{fullShare} (w d : Buf (Elt F) (wLoc d))) ∗ oLoc d ↦{fullShare} g)
      ⊢ (bigSep Finset.univ fun c : Fin ((K (F := F)).nCore 0) => (P (F := F) w).st 0 d c : sProp 𝕄) := by
  show _ ⊢ (bigSep (Finset.univ : Finset (Fin 2)) fun a => bigSep Finset.univ fun b : Fin 16 => goPts (F := F) (w d) d a b)
  rw [words_deal, out_deal, ← bigSep_sep']
  refine bigSep_mono fun a _ => ?_
  rw [← bigSep_sep']
  exact bigSep_mono fun b _ => go_intro w d a b g

/-- What the call brings back, as the words and the output whole. -/
theorem dn_elim (w : Dev nD → IVec S524288 32) (d : Dev nD) :
    (bigSep Finset.univ fun c : Fin ((K (F := F)).nCore 0) => (P (F := F) w).dn 0 d c : sProp 𝕄)
      ⊢ iprop((wLoc d ↦{fullShare} (w d : Buf (Elt F) (wLoc d))) ∗ oLoc d ↦{fullShare} (outV (F := F) (w d) : Buf (Elt F) (oLoc d))) := by
  show (bigSep (Finset.univ : Finset (Fin 2)) fun a => bigSep Finset.univ fun b : Fin 16 => tdPts (F := F) (w d) d a b) ⊢ _
  rw [words_deal, out_deal, ← bigSep_sep']
  refine bigSep_mono fun a _ => ?_
  rw [← bigSep_sep']
  exact Idealize.SL.BI.Entails.refl _

/-! ## The TensorCore's steps -/

/-- A reshape's run: the result's buffer at the source's elements, the source's kept. -/
theorem wp_reshape (m : (ℓ : Loc nD τ sig) → Buf (Elt F) ℓ) (d : Dev nD) (a b : Ref sig .tc) (hab : (Proc.devRef .tc a : DevRef τ sig) ≠ Proc.devRef .tc b) (he : a.ty.elt = b.ty.elt) (hn : a.ty.shape.ShapeCasts b.ty.shape)
    (ha : a.space ≠ .host ∧ ((Proc.devRef .tc a : DevRef τ sig)).isScoped = false) (hb : b.space ≠ .host ∧ ((Proc.devRef .tc b : DevRef τ sig)).isScoped = false)
    (f : Buf (Elt F) ((SparseCore.T d : Thread nD τ).loc a)) (g : Buf (Elt F) ((SparseCore.T d : Thread nD τ).loc b)) (Φ : PUnit → sProp 𝕄) :
    iprop((boundary (SparseCore.T d : Thread nD τ) ∗ ((SparseCore.T d : Thread nD τ).loc a ↦{fullShare} f) ∗ ((SparseCore.T d : Thread nD τ).loc b ↦{fullShare} g))
        ∗ (iprop(boundary (SparseCore.T d : Thread nD τ) ∗ ((SparseCore.T d : Thread nD τ).loc a ↦{fullShare} f)
            ∗ ((SparseCore.T d : Thread nD τ).loc b ↦{fullShare} ((fun i => he ▸ shapeCast b.ty.shape f hn i) : Buf (Elt F) ((SparseCore.T d : Thread nD τ).loc b)))) -∗ Φ ⟨⟩))
      ⊢ wp frame (wpE ((K (F := F)).defs (D (F := F))) 𝒱 (SparseCore.T d) none) Set.univ
          (hlo rfl (StableHlo.reshape a b he hn ha hb) (fun _ => .ret ⟨⟩)) Φ := by
  have hheld : ∀ W : Valuation τ sig (Elt F), (held (SparseCore.T d) ({Proc.devRef .tc a, Proc.devRef .tc b} : Finset (DevRef τ sig)) W : sProp 𝕄)
      = iprop(((SparseCore.T d : Thread nD τ).loc a ↦{fullShare} W (Proc.devRef .tc a)) ∗ (SparseCore.T d : Thread nD τ).loc b ↦{fullShare} W (Proc.devRef .tc b)) := fun W => by
    unfold held
    rw [SparseCore.bigSep_insert' (by rw [Finset.mem_singleton]; exact hab), bigSep_singleton]
  have hVa : Function.update (Function.update (fun x => m (d, x) : Valuation τ sig (Elt F)) (Proc.devRef .tc a) f) (Proc.devRef .tc b) g (Proc.devRef .tc a) = f := by
    rw [Function.update_of_ne hab]; exact Function.update_self _ _ _
  have hVb : Function.update (Function.update (fun x => m (d, x) : Valuation τ sig (Elt F)) (Proc.devRef .tc a) f) (Proc.devRef .tc b) g (Proc.devRef .tc b) = g :=
    Function.update_self _ _ _
  generalize Function.update (Function.update (fun x => m (d, x) : Valuation τ sig (Elt F)) (Proc.devRef .tc a) f) (Proc.devRef .tc b) g = W at hVa hVb
  iintro ⟨⟨Hb, Ha, Hg⟩, Hk⟩
  iapply (wp_hlo_within 𝒱 (SparseCore.T d) none Set.univ (op := StableHlo.reshape a b he hn ha hb) (S := {Proc.devRef .tc a, Proc.devRef .tc b})
    (Finset.Subset.refl _) (V := W)) $$ [Hb Ha Hg]
  · isplitl [Hb]; · iexact Hb
    rw [hheld, hVa, hVb]
    isplitl [Ha]; · iexact Ha
    iexact Hg
  rw [hheld, StableHlo.reshape_result, HloOp.result_of_not_mem _ _ (show (Proc.devRef .tc a : DevRef τ sig) ∉ ({Proc.devRef .tc b} : Finset _) from by rw [Finset.mem_singleton]; exact hab), hVa]
  iintro ⟨Hb, Ha, Hg⟩
  rw [wp_ret]; imodintro
  iapply Hk
  isplitl [Hb]; · iexact Hb
  isplitl [Ha]; · iexact Ha
  iexact Hg

/-- A pipeline's region, entered from `@main`. -/
theorem wp_region [∀ e, Nonempty (Elt F e)] {p : Fin 3} {dats : (p : Fin 3) → (c : Dev nD) → _}
    (R : Pipeline.RegionSeg (pcfgs (F := F)) adm dats (none : HIx 1) defs₀ 𝒱₀ (K (F := F)).L (K (F := F)).lev p) (d : Dev nD) (Φ : PUnit → sProp 𝕄) :
    iprop((iprop(boundary (d.tc : Thread nD τ) ∗ R.post d) -∗ Φ ⟨⟩) ∗ boundary (d.tc : Thread nD τ) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ())) Φ := by
  iintro ⟨Hk, H⟩
  iapply ((K (F := F)).wp_liftProg (D (F := F)) 𝒱 (SparseCore.T d) Set.univ none (Prog.op (.customCall (Pipeline.entry p) ()) fun x => .ret x) Φ)
  iapply (R.wp (pcfgs (F := F)) adm dats none cellOf_inj EP defs₀ 𝒱₀ (K (F := F)).L (K (F := F)).lev d none (fun _ h => nomatch h) (fun x => .ret x) Φ)
  isplitl [Hk]
  · iintro H
    rw [wp_ret]
    imodintro
    iapply Hk; iexact H
  · iexact H

end Cert.Proof.IdealRun

end
-- ==== Proof.Ideal.Run.lean ====
module

public import proofs.«01_k».proof.Proof.Ideal.Region0
public import proofs.«01_k».proof.Proof.Ideal.Region1
public import proofs.«01_k».proof.Proof.Ideal.Main

@[expose] public section

set_option maxRecDepth 16384

noncomputable section

namespace Cert.Proof.IdealRun

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values `@main` computes -/

abbrev tl (d : Dev nD) (b : Ref sig .tc) : Loc nD τ sig := (SparseCore.T d : Thread nD τ).loc b

abbrev xIn (d : Dev nD) : Vec F S1024x1024 .f32 := m (tl d main_arg0)
abbrev yIn (d : Dev nD) : Vec F S1024x1024 .f32 := m (tl d main_arg1)

/-- The flat words the kernel counts. -/
def wordsV (x y : Vec F S1024x1024 .f32) : IVec S524288 32 := shapeCast S524288 (packed (mmVal x y) x y) shapeCasts_S4096x128_S524288

/-- The kernel's result. -/
def outS (x y : Vec F S1024x1024 .f32) : Vec F S_ .f32 := fun _ => miVal (outV (F := F) (wordsV x y))

/-! ## The launch element -/

/-- The pipelines' cells and their launch tokens. -/
def uB : UB := initOf (Pipeline.cells (nD := nD) (τ := τ) (Pipeline.pin (pcfgs (F := F)) adm) cellOf_inj) (Pipeline.launchToks (nD := nD) (τ := τ) (Pipeline.pin (pcfgs (F := F)) adm) cellOf_inj)

def u₀ : UU := (initOf (K (F := F)).hsCells (K (F := F)).hsToks, (uB (F := F), 1))

theorem ownU_split (a : UH) (b : UB) : (ownU ((a, (b, 1)) : UU) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the pipelines' regions consume on core `d`. -/
abbrev Gd (d : Dev nD) : sProp 𝕄 :=
  iprop((bigSep Finset.univ fun p : Fin 3 => Pipeline.cellsGhost (Pipeline.pin (pcfgs (F := F)) adm) (EP (F := F)) p d)
    ∗ bigSep Finset.univ fun p : Fin 3 => Pipeline.toksInit (Pipeline.pin (pcfgs (F := F)) adm) (EP (F := F)) p d)

theorem bigSep_emp' {I : Type} (s : Finset I) : (bigSep s fun _ => iprop(emp)) = (iprop(emp) : sProp 𝕄) := bigSep_emp_const s

theorem hu₀ (w : Dev nD → IVec S524288 32) : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P (F := F) w).x q thr) := by
  unfold u₀
  iintro Hu
  ihave H := (ownU_split _ _) $$ Hu
  icases H with ⟨HH, HB⟩
  unfold uB
  imod (Pipeline.fund_ghost (Pipeline.pin (pcfgs (F := F)) adm) (EP (F := F)) cellOf_inj) $$ HB with ⟨Hc, Ht⟩
  imodintro
  isplitl [HH]; · iexact HH
  isplitl [Hc Ht]
  · rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## `@main` on the TensorCore -/

theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1) ∗ (tl d main_v0 ↦{fullShare} W main_v0)
      ∗ (tl d main_v1 ↦{fullShare} W main_v1) ∗ (tl d main_v2 ↦{fullShare} W main_v2) ∗ (tl d main_v3 ↦{fullShare} W main_v3)
      ∗ (tl d main_v4 ↦{fullShare} W main_v4) ∗ tl d main_v5 ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The TensorCore's state before call `n` is its debt and what stays outside the regions. -/
theorem tcSt_split (d : Dev nD) (n : ℕ) : ∃ R : sProp 𝕄, (K (F := F)).tcSt EH d n = iprop(owesUpTo (F := F) d n ∗ R) := ⟨_, rfl⟩

theorem Gd_eq (d : Dev nD) : (Gd (F := F) d : sProp 𝕄) =
    iprop((Pipeline.cellsGhost (Pipeline.pin (pcfgs (F := F)) adm) (EP (F := F)) 0 d ∗ Pipeline.cellsGhost (Pipeline.pin (pcfgs (F := F)) adm) (EP (F := F)) 1 d
        ∗ Pipeline.cellsGhost (Pipeline.pin (pcfgs (F := F)) adm) (EP (F := F)) 2 d)
      ∗ (Pipeline.toksInit (Pipeline.pin (pcfgs (F := F)) adm) (EP (F := F)) 0 d ∗ Pipeline.toksInit (Pipeline.pin (pcfgs (F := F)) adm) (EP (F := F)) 1 d
        ∗ Pipeline.toksInit (Pipeline.pin (pcfgs (F := F)) adm) (EP (F := F)) 2 d)) := by
  unfold Gd
  rw [show (Finset.univ : Finset (Fin 3)) = {0, 1, 2} by decide, SparseCore.bigSep_insert' (by decide), SparseCore.bigSep_insert' (by decide), bigSep_singleton,
    SparseCore.bigSep_insert' (by decide), SparseCore.bigSep_insert' (by decide), bigSep_singleton]

/-- The first region: the arguments' minima and maxima into `main_v0`. -/
theorem wp_reg0 [∀ e, Nonempty (Elt F e)] (d : Dev nD) (x y : Dev nD → Vec F S1024x1024 .f32) (z : Dev nD → Vec F S4 .f32) (Φ : PUnit → sProp 𝕄) :
    iprop((iprop(boundary (d.tc : Thread nD τ) ∗ (tl d main_arg0 ↦{fullShare} (x d : Buf (Elt F) (tl d main_arg0))) ∗ (tl d main_arg1 ↦{fullShare} (y d : Buf (Elt F) (tl d main_arg1))) ∗ (tl d main_v0 ↦{fullShare} (mmVal (x d) (y d) : Buf (Elt F) (tl d main_v0))) ∗ owesUpTo (F := F) d 0) -∗ Φ ⟨⟩) ∗ boundary (d.tc : Thread nD τ)
        ∗ ((tl d main_arg0 ↦{fullShare} (x d : Buf (Elt F) (tl d main_arg0))) ∗ (tl d main_arg1 ↦{fullShare} (y d : Buf (Elt F) (tl d main_arg1))) ∗ (tl d main_v0 ↦{fullShare} (z d : Buf (Elt F) (tl d main_v0))) ∗ owesUpTo (F := F) d 0) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Φ :=
  wp_region (reg0 x y z) d Φ

/-- The second region: the packed words into `main_v1`. -/
theorem wp_reg1 [∀ e, Nonempty (Elt F e)] (d : Dev nD) (mm : Dev nD → Vec F S4 .f32) (x y : Dev nD → Vec F S1024x1024 .f32) (z : Dev nD → IVec S4096x128 32) (Φ : PUnit → sProp 𝕄) :
    iprop((iprop(boundary (d.tc : Thread nD τ) ∗ (tl d main_v0 ↦{fullShare} (mm d : Buf (Elt F) (tl d main_v0))) ∗ (tl d main_arg0 ↦{fullShare} (x d : Buf (Elt F) (tl d main_arg0))) ∗ (tl d main_arg1 ↦{fullShare} (y d : Buf (Elt F) (tl d main_arg1))) ∗ (tl d main_v1 ↦{fullShare} (packed (mm d) (x d) (y d) : Buf (Elt F) (tl d main_v1))) ∗ owesUpTo (F := F) d 0) -∗ Φ ⟨⟩) ∗ boundary (d.tc : Thread nD τ)
        ∗ ((tl d main_v0 ↦{fullShare} (mm d : Buf (Elt F) (tl d main_v0))) ∗ (tl d main_arg0 ↦{fullShare} (x d : Buf (Elt F) (tl d main_arg0))) ∗ (tl d main_arg1 ↦{fullShare} (y d : Buf (Elt F) (tl d main_arg1))) ∗ (tl d main_v1 ↦{fullShare} (z d : Buf (Elt F) (tl d main_v1))) ∗ owesUpTo (F := F) d 0) ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ())) Φ :=
  wp_region (reg1 mm x y z) d Φ

/-- The last region: the mutual information into `main_v4`. -/
theorem wp_reg3 [∀ e, Nonempty (Elt F e)] (d : Dev nD) (h : Dev nD → Vec F S32x512x128 .f32) (z : Dev nD → Vec F S1 .f32) (Φ : PUnit → sProp 𝕄) :
    iprop((iprop(boundary (d.tc : Thread nD τ) ∗ (tl d main_v3 ↦{fullShare} (h d : Buf (Elt F) (tl d main_v3))) ∗ (tl d main_v4 ↦{fullShare} (fun _ => miVal (h d) : Buf (Elt F) (tl d main_v4))) ∗ owesUpTo (F := F) d 1) -∗ Φ ⟨⟩) ∗ boundary (d.tc : Thread nD τ)
        ∗ ((tl d main_v3 ↦{fullShare} (h d : Buf (Elt F) (tl d main_v3))) ∗ (tl d main_v4 ↦{fullShare} (z d : Buf (Elt F) (tl d main_v4))) ∗ owesUpTo (F := F) d 1) ∗ levAts (K (F := F)).L (K (F := F)).lev
        ∗ Pipeline.cellsGhost (Pipeline.pin (pcfgs (F := F)) adm) (EP (F := F)) 2 d ∗ Pipeline.toksInit (Pipeline.pin (pcfgs (F := F)) adm) (EP (F := F)) 2 d)
      ⊢ wp frame (wpE ((K (F := F)).defs (D (F := F))) 𝒱 (SparseCore.T d) none) Set.univ
          (Prog.lift (.customCall (SparseCore.inner (Pipeline.entry 2)) ())) Φ :=
  wp_region (reg3 h z) d Φ

/-- What `@main` leaves: the arguments at their launch contents, the result at its value. -/
abbrev FIN (d : Dev nD) : sProp 𝕄 :=
  iprop((tl d main_arg0 ↦{fullShare} m (tl d main_arg0)) ∗ (tl d main_arg1 ↦{fullShare} m (tl d main_arg1))
    ∗ tl d main_v5 ↦{fullShare} (outS (F := F) (xIn m d) (yIn m d) : Buf (Elt F) (tl d main_v5)))

/-- The words of every device. -/
abbrev wAll (d : Dev nD) : IVec S524288 32 := wordsV (xIn m d) (yIn m d)

theorem hmain [∀ e, Nonempty (Elt F e)] (κ : GSem nD τ sig → ℕ) (d : Dev nD) :
    iprop((K (F := F)).ctx EH (P (F := F) (wAll m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R0, e0⟩ := tcSt_split (F := F) d 0
  obtain ⟨R1, e1⟩ := tcSt_split (F := F) d 1
  have e0' : (K (F := F)).tcSt EH d ((0 : Fin 1) : ℕ) = iprop(owesUpTo (F := F) d 0 ∗ R0) := e0
  have e1' : (K (F := F)).tcSt EH d (((0 : Fin 1) : ℕ) + 1) = iprop(owesUpTo (F := F) d 1 ∗ R1) := e1
  rw [unscopedBufs_eq, Gd_eq]
  simp only [main, wp_bind, wp_pure]
  iintro ⟨#Hctx, Hst, ⟨Hb, ⟨Ha0, Ha1, H0, H1, H2, H3, H4, H5⟩, Hts, -⟩, ⟨⟨Hg0, Hg1, Hg2⟩, ⟨Ht0, Ht1, Ht2⟩⟩⟩
  ihave #Hlv := ((K (F := F)).ctx_levAts κ) $$ Hctx
  ihave Hst := (Idealize.SL.BI.BIBase.Entails.of_eq e0) $$ Hst
  icases Hst with ⟨Ho, Hr⟩
  -- the minima and maxima
  iapply (wp_reg0 d (xIn m) (yIn m) (fun d => m (tl d main_v0)) _)
  isplitr [Hb Ha0 Ha1 H0 Ho Hg0 Ht0]
  rotate_left
  · isplitl [Hb]; · iexact Hb
    isplitl [Ha0 Ha1 H0 Ho]
    · isplitl [Ha0]; · iexact Ha0
      isplitl [Ha1]; · iexact Ha1
      isplitl [H0]; · iexact H0
      iexact Ho
    isplitr; · iexact Hlv
    isplitl [Hg0]; · iexact Hg0
    iexact Ht0
  iintro ⟨Hb, Ha0, Ha1, H0, Ho⟩
  -- the packed words
  iapply (wp_reg1 d (fun d => mmVal (xIn m d) (yIn m d)) (xIn m) (yIn m) (fun d => m (tl d main_v1)) _)
  isplitr [Hb Ha0 Ha1 H0 H1 Ho Hg1 Ht1]
  rotate_left
  · isplitl [Hb]; · iexact Hb
    isplitl [Ha0 Ha1 H0 H1 Ho]
    · isplitl [H0]; · iexact H0
      isplitl [Ha0]; · iexact Ha0
      isplitl [Ha1]; · iexact Ha1
      isplitl [H1]; · iexact H1
      iexact Ho
    isplitr; · iexact Hlv
    isplitl [Hg1]; · iexact Hg1
    iexact Ht1
  iintro ⟨Hb, H0, Ha0, Ha1, H1, Ho⟩
  -- the words, flat
  iapply (wp_reshape m d main_v1 main_v2 (by decide) _ _ ⟨by decide, rfl⟩ ⟨by decide, rfl⟩ (packed (mmVal (xIn m d) (yIn m d)) (xIn m d) (yIn m d)) (m (tl d main_v2)) _)
  isplitl [Hb H1 H2]
  · isplitl [Hb]; · iexact Hb
    isplitl [H1]; · iexact H1
    iexact H2
  iintro ⟨Hb, H1, H2⟩
  -- the SparseCore call
  iapply ((K (F := F)).wp_run (D (F := F)) 𝒱 (EH := EH) (P := P (F := F) (wAll m)) κ d 0)
  isplitr; · iexact Hctx
  isplitl [Ho Hr]
  · rw [e0']
    isplitl [Ho]; · iexact Ho
    iexact Hr
  isplitl [H2 H3]
  · iapply (st_intro (F := F) (wAll m) d (m (tl d main_v3)))
    isplitl [H2]; · iexact H2
    iexact H3
  iintro ⟨Hst, Hdn⟩
  ihave Hst := (Idealize.SL.BI.BIBase.Entails.of_eq e1') $$ Hst
  icases Hst with ⟨Ho, Hr⟩
  ihave Hdn := (dn_elim (F := F) (wAll m) d) $$ Hdn
  icases Hdn with ⟨H2, H3⟩
  -- the mutual information
  iapply (wp_reg3 d (fun d => outV (F := F) (wAll m d)) (fun d => m (tl d main_v4)) _)
  isplitr [Hb H3 H4 Ho Hg2 Ht2]
  rotate_left
  · isplitl [Hb]; · iexact Hb
    isplitl [H3 H4 Ho]
    · isplitl [H3]; · iexact H3
      isplitl [H4]; · iexact H4
      iexact Ho
    isplitr; · iexact Hlv
    isplitl [Hg2]; · iexact Hg2
    iexact Ht2
  iintro ⟨Hb, H3, H4, Ho⟩
  -- the result
  iapply (wp_reshape m d main_v4 main_v5 (by decide) _ _ ⟨by decide, rfl⟩ ⟨by decide, rfl⟩ (fun _ => miVal (outV (F := F) (wAll m d))) (m (tl d main_v5)) _)
  isplitl [Hb H4 H5]
  · isplitl [Hb]; · iexact Hb
    isplitl [H4]; · iexact H4
    iexact H5
  iintro ⟨Hb, H4, H5⟩
  imodintro
  isplitl [Ho Hr]
  · rw [e1]
    isplitl [Ho]; · iexact Ho
    iexact Hr
  isplitr [Hb Hts]
  · isplitl [Ha0]; · iexact Ha0
    isplitl [Ha1]; · iexact Ha1
    iexact H5
  isplitl [Hb] <;> iassumption

/-! ## The program's run -/

def fq (d : Dev nD) (s' : Phys nD τ sig (Elt F)) : Prop :=
  s'.mem.mem (tl d main_arg0) = m (tl d main_arg0) ∧ s'.mem.mem (tl d main_arg1) = m (tl d main_arg1)
    ∧ s'.mem.mem (tl d main_v5) = (outS (F := F) (xIn m d) (yIn m d) : Buf (Elt F) (tl d main_v5))

theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := tl d main_arg0) (I := Finset.univ) (q := fullShare) (f := m (tl d main_arg0)))) $$ [HSI H0]
  · isplitl [HSI] <;> iassumption
  icases H with ⟨%h0, HSI, -⟩
  ihave H := (persistent_entails_right (SI_pointsTo_agree (st := s') (ℓ := tl d main_arg1) (I := Finset.univ) (q := fullShare) (f := m (tl d main_arg1)))) $$ [HSI H1]
  · isplitl [HSI] <;> iassumption
  icases H with ⟨%h1, HSI, -⟩
  ihave H := (SI_pointsTo_agree (st := s') (ℓ := tl d main_v5) (I := Finset.univ) (q := fullShare)) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- How the program ends: its arguments unchanged, its result at its value, every semaphore at zero. -/
def QC : PUnit × MemSt nD τ sig (Elt F) → Prop := fun r =>
  (∀ c : Dev nD, r.2.mem (tl c main_arg0) = m (tl c main_arg0) ∧ r.2.mem (tl c main_arg1) = m (tl c main_arg1)
    ∧ r.2.mem (tl c main_v5) = (outS (F := F) (xIn m c) (yIn m c) : Buf (Elt F) (tl c main_v5))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (wAll m)) (A := ∅) facts v₀
    (fun q hq => match q with | 0 => nomatch hq)
    (fun q _ => match q with | 0 => tileObl facts (wAll m))
    (fun q _ => match q with | 0 => SparseCore.Cfg.VecSplit.of_plain (vecSplit (wAll m)))
    m ρ main (fun d => Gd (F := F) d) (FIN m) (u₀ (F := F)) (sep_elim_left.trans (hu₀ (wAll m))) (hmain m ρ) (fq m) (hfin m) (QC m) (fun _ h hz => ⟨h, hz⟩)

end Cert.Proof.IdealRun

end
-- ==== Proof.Ideal.Count.lean ====
module

public import proofs.«01_k».proof.Proof.Ideal.Tile
public import Idealize.ShloMosaic.Lib.ValueIdxCore

/-!
# The histograms count

At ideal values a tile's histogram holds, at each place, the number of half words naming it.
-/

@[expose] public section

set_option maxRecDepth 16384

noncomputable section

namespace Cert.Proof.IdealRun

open Cert.KernelIdeal Cert.KernelIdeal.Gen Idealize.ShloMosaic
open scoped BigOperators

/-! ## Sums over blocks -/

/-- A sum over `a * b` numbers, block by block. -/
theorem sum_blocks {M : Type} [AddCommMonoid M] (f : ℕ → M) (a b : ℕ) :
    ∑ i ∈ Finset.range (a * b), f i = ∑ p ∈ Finset.range a, ∑ c ∈ Finset.range b, f (b * p + c) := by
  induction a with
  | zero => simp
  | succ n ih =>
    rw [Nat.succ_mul, Finset.sum_range_add, ih, Finset.sum_range_succ, Nat.mul_comm n b]

/-! ## One indexed addition -/

/-- How many of a word's two halves are `q`. -/
def hit (w : BitVec 32) (q : ℕ) : ℕ := (if w.toNat % 65536 = q then 1 else 0) + (if w.toNat / 65536 = q then 1 else 0)

/-- Adding one at a list of places adds to each element the number of times the list names it. -/
theorem fold_count {s : Shape} {κ : Type} (ix : κ → s.Idx) (v : κ → EReal) (hv : ∀ k, v k = 1) (j : s.Idx) (L : List κ) (f : s.Idx → EReal) :
    L.foldl (fun g k => fun j => if (∀ a, (j a).val = (ix k a).val) then g (ix k) + v k else g j) f j
      = f j + (((L.map fun k => if (∀ a, (j a).val = (ix k a).val) then 1 else 0).sum : ℕ) : EReal) := by
  induction L generalizing f with
  | nil => simp
  | cons k L ih =>
    rw [List.foldl_cons, ih, List.map_cons, List.sum_cons, Nat.cast_add, ← add_assoc]
    congr 1
    split
    · rename_i h
      have e : ix k = j := funext fun a => Fin.ext (h a).symm
      rw [hv, e, Nat.cast_one]
    · rw [Nat.cast_zero, add_zero]

/-- An indexed store that adds ones, at an element. -/
theorem storeIdx_count {s : Shape} {d : Fin 1 → ℕ} (f : Vec Ideal s .f32) (idxs : Fin s.rank → IVec ⟨1, d⟩ 32) (v : Vec Ideal ⟨1, d⟩ .f32)
    (hv : ∀ x, v x = (1 : EReal)) (h : ∀ a x, (idxs a x).toNat < s.size a) (j : s.Idx) :
    (storeIdx f idxs v (fun _ => 1#1) true h j : EReal)
      = (f j : EReal) + ((∑ k : Fin (d 0), if (∀ a, (j a).val = (idxs a (Shape.ofLane k)).toNat) then 1 else 0 : ℕ) : EReal) := by
  rw [Fin.sum_univ_def]
  unfold storeIdx
  simp only [↓reduceIte]
  exact fold_count (fun k => idxAt idxs h (Shape.ofLane k)) (fun k => v (Shape.ofLane k)) (fun _ => hv _) j (List.finRange (d 0)) f

/-- The ones that are added. -/
theorem ones_eq (x : S16.Idx) : (k2_pay14 (F := Ideal) x : EReal) = 1 := by
  show Ideal.ofBits .f32 0x3F800000#32 = 1
  simp [Ideal.ofBits, Ideal.ieee, -EReal.coe_mul]; norm_num

/-- The row that a word's low half names. -/
theorem lo_row (b : BitVec 32) : ((b &&& 65535#32) >>> (7#32 : BitVec 32)).toNat = b.toNat % 65536 / 128 := by
  have : b.toNat &&& 65535 = b.toNat % 65536 := Nat.and_two_pow_sub_one_eq_mod b.toNat 16
  simp [Nat.shiftRight_eq_div_pow, this]

/-- The column that a word's low half names. -/
theorem lo_col (b : BitVec 32) : ((b &&& 65535#32) &&& 127#32).toNat = b.toNat % 65536 % 128 := by
  have : b.toNat &&& 65535 = b.toNat % 65536 := Nat.and_two_pow_sub_one_eq_mod b.toNat 16
  have h2 : b.toNat % 65536 &&& 127 = b.toNat % 65536 % 128 := Nat.and_two_pow_sub_one_eq_mod _ 7
  rw [BitVec.toNat_and, BitVec.toNat_and]
  show (b.toNat &&& 65535) &&& 127 = _
  rw [this, h2]

/-- The row that a word's high half names. -/
theorem hi_row (b : BitVec 32) : ((b >>> (16#32 : BitVec 32)) >>> (7#32 : BitVec 32)).toNat = b.toNat / 65536 / 128 := by
  rw [Nat.div_div_eq_div_mul]
  simp [Nat.shiftRight_eq_div_pow, ← Nat.shiftRight_add]

/-- The column that a word's high half names. -/
theorem hi_col (b : BitVec 32) : ((b >>> (16#32 : BitVec 32)) &&& 127#32).toNat = b.toNat / 65536 % 128 := by
  rw [BitVec.toNat_and]
  show (b >>> (16#32 : BitVec 32)).toNat &&& 127 = _
  rw [show (127 : ℕ) = 2 ^ 7 - 1 from rfl, Nat.and_two_pow_sub_one_eq_mod]
  simp [Nat.shiftRight_eq_div_pow]

/-- The number of a place of a histogram. -/
def place (j : S512x128.Idx) : ℕ := 128 * (j 0).val + (j 1).val

/-- Row and column name a place exactly when they are a number's quotient and remainder. -/
theorem place_iff (j : S512x128.Idx) (r c n : ℕ) (hr : r = n / 128) (hc : c = n % 128) : ((j 0).val = r ∧ (j 1).val = c) ↔ n = place j := by
  have h1 : (j 1).val < 128 := (j 1).isLt
  unfold place
  omega

/-- Counting the low halves of sixteen words adds to each place how often they name it. -/
theorem addLo_apply (w : IVec S16 32) (h : Vec Ideal S512x128 .f32) (j : S512x128.Idx) :
    (addLo (F := Ideal) w h j : EReal) = (h j : EReal) + ((∑ k : Fin 16, if (w (Shape.ofLane k)).toNat % 65536 = place j then 1 else 0 : ℕ) : EReal) := by
  unfold addLo
  rw [storeIdx_count h _ _ ones_eq]
  refine congrArg (fun n : ℕ => (h j : EReal) + (n : EReal)) ?_
  refine Finset.sum_congr rfl fun k _ => if_congr ?_ rfl rfl
  refine Iff.trans ?_ (place_iff j _ _ _ (lo_row (w (Shape.ofLane k))) (lo_col (w (Shape.ofLane k))))
  exact Fin.forall_fin_two

/-- Counting the high halves of sixteen words adds to each place how often they name it. -/
theorem addHi_apply (w : IVec S16 32) (h : Vec Ideal S512x128 .f32) (j : S512x128.Idx) :
    (addHi (F := Ideal) w h j : EReal) = (h j : EReal) + ((∑ k : Fin 16, if (w (Shape.ofLane k)).toNat / 65536 = place j then 1 else 0 : ℕ) : EReal) := by
  unfold addHi
  rw [storeIdx_count h _ _ ones_eq]
  refine congrArg (fun n : ℕ => (h j : EReal) + (n : EReal)) ?_
  refine Finset.sum_congr rfl fun k _ => if_congr ?_ rfl rfl
  refine Iff.trans ?_ (place_iff j _ _ _ (hi_row (w (Shape.ofLane k))) (hi_col (w (Shape.ofLane k))))
  exact Fin.forall_fin_two

/-- Sixteen words add at each place the number of their halves that name it. -/
theorem addW_apply (w : IVec S16 32) (h : Vec Ideal S512x128 .f32) (j : S512x128.Idx) :
    (addW (F := Ideal) w h j : EReal) = (h j : EReal) + ((∑ k : Fin 16, hit (w (Shape.ofLane k)) (place j) : ℕ) : EReal) := by
  unfold addW
  rw [addHi_apply, addLo_apply, add_assoc, ← Nat.cast_add, ← Finset.sum_add_distrib]
  rfl

/-! ## A tile's histogram -/

/-- Word `i` of a tile's words. -/
def twN (tw : IVec S16384 32) (i : ℕ) : BitVec 32 := tw (fun | 0 => ⟨i % 16384, Nat.mod_lt _ (by decide)⟩)

/-- Sixteen words' hits, summed over the words. -/
theorem words_apply (tw : IVec S16384 32) (n q : ℕ) :
    (∑ k : Fin 16, hit (wordsAt tw n (Shape.ofLane k)) q) = ∑ c ∈ Finset.range 16, hit (twN tw (n + c)) q := by
  rw [Finset.sum_range]
  rfl

/-- One trip adds the halves of its 64 words. -/
theorem tripF_apply (tw : IVec S16384 32) (k : ℕ) (h : Vec Ideal S512x128 .f32) (j : S512x128.Idx) :
    (tripF (F := Ideal) tw k h j : EReal) = (h j : EReal) + ((∑ c ∈ Finset.range 64, hit (twN tw (64 * k + c)) (place j) : ℕ) : EReal) := by
  unfold tripF
  rw [addW_apply, addW_apply, addW_apply, addW_apply, words_apply, words_apply, words_apply, words_apply]
  rw [add_assoc, add_assoc, add_assoc, ← Nat.cast_add, ← Nat.cast_add, ← Nat.cast_add]
  refine congrArg (fun n : ℕ => (h j : EReal) + (n : EReal)) ?_
  rw [show (64 : ℕ) = 16 + 16 + 16 + 16 from rfl, Finset.sum_range_add, Finset.sum_range_add, Finset.sum_range_add]
  simp only [← add_assoc]

/-- After `n` trips a tile's histogram holds the number of halves of its first `64 n` words. -/
theorem histF_apply (tw : IVec S16384 32) (n : ℕ) (j : S512x128.Idx) :
    (histF (F := Ideal) tw n j : EReal) = ((∑ i ∈ Finset.range (n * 64), hit (twN tw i) (place j) : ℕ) : EReal) := by
  induction n with
  | zero =>
    rw [Nat.zero_mul, Finset.sum_range_zero, Nat.cast_zero]
    show Ideal.ofBits .f32 0x00000000#32 = 0
    simp [Ideal.ofBits, Ideal.ieee]
  | succ n ih =>
    show (tripF (F := Ideal) tw n (histF tw n) j : EReal) = _
    rw [tripF_apply, ih, ← Nat.cast_add, Nat.add_mul n 1 64, Nat.one_mul, Finset.sum_range_add, Nat.mul_comm n 64]

/-- Word `i` of all the words. -/
def wN (w : IVec S524288 32) (i : ℕ) : BitVec 32 := w (fun | 0 => ⟨i % 524288, Nat.mod_lt _ (by decide)⟩)

/-- What the tiles leave: for each tile the number of halves of its words. -/
theorem outV_apply (w : IVec S524288 32) (j : S32x512x128.Idx) :
    (outV (F := Ideal) w j : EReal)
      = ((∑ i ∈ Finset.range 16384, hit (wN w (16384 * (j 0).val + i)) (128 * (j 1).val + (j 2).val) : ℕ) : EReal) := by
  unfold outV
  rw [histF_apply]
  refine congrArg (fun n : ℕ => (n : EReal)) ?_
  refine Finset.sum_congr rfl fun i hi => ?_
  have hi' : i < 16384 := Finset.mem_range.1 hi
  have e : twN (tileW (j 0).val w) i = wN w (16384 * (j 0).val + i) := by
    unfold twN tileW wN
    refine congrArg w (funext fun a => ?_)
    match a with
    | 0 => exact Fin.ext (by show (16384 * (j 0).val + i % 16384) % 524288 = _; rw [Nat.mod_eq_of_lt hi'])
  rw [e]
  rfl

/-- The tiles' counts together. -/
theorem sum_tiles (w : IVec S524288 32) (q : ℕ) :
    (∑ t : Fin 32, ∑ i ∈ Finset.range 16384, hit (wN w (16384 * t.val + i)) q) = ∑ i ∈ Finset.range 524288, hit (wN w i) q := by
  rw [show (524288 : ℕ) = 32 * 16384 from rfl, sum_blocks, Finset.sum_range]

end Cert.Proof.IdealRun
-- ==== Proof.Ideal.Words.lean ====
module

public import proofs.«01_k».proof.Proof.Ideal.Count
public import proofs.«01_k».proof.Proof.Ideal.Run
public import Idealize.ShloMosaic.Lib.ValueIdxCore

/-!
# What the words say

At ideal values each half of a packed word is the number of the pair of bins of one element, so that the tiles' histograms together count the elements.
-/

@[expose] public section

set_option maxRecDepth 16384

noncomputable section

namespace Cert.Proof.IdealRun

open Cert.KernelIdeal Cert.KernelIdeal.Gen Idealize.ShloMosaic Idealize.ShloMosaic.ValueIdx
open scoped BigOperators

/-! ## One element's bin -/

/-- A word held between 0 and 255. -/
def clampW (z : BitVec 32) : BitVec 32 := IntOp.minsi 255#32 (IntOp.maxsi 0#32 z)

/-- A clamped word is at most 255. -/
theorem clampW_le (z : BitVec 32) : (clampW z).toNat ≤ 255 := by
  have h0 : ∀ w : BitVec 32, 0 ≤ w.toInt → (w.toNat : ℤ) = w.toInt := fun w h => by
    rw [BitVec.toInt_eq_toNat_cond] at h ⊢
    have := w.isLt
    split at h <;> split <;> omega
  unfold clampW IntOp.minsi IntOp.maxsi
  by_cases hz : z.slt 0#32 <;> simp only [BitVec.slt, decide_eq_true_eq] at * <;> split <;> (try split at *) <;> simp_all <;>
    (have := h0 z (by omega); omega)

/-- The bin of a value between the extremes of its array. -/
def binE {F : FTy → Type} [FloatOps F] (mn mx v : F .f32) : BitVec 32 :=
  clampW (FloatOps.fptosi 32 (FloatOps.floor
    (FloatOps.mulf (FloatOps.divf (FloatOps.subf v mn) (Scalar.addf (Scalar.subf mx mn) (Scalar.ofBits .f32 0x322BCC77#32))) (Scalar.ofBits .f32 0x43800000#32))))

/-- An element by its row and column. -/
def elt (x : Vec Ideal S1024x1024 .f32) (r c : ℕ) : Ideal .f32 := x (ix2 ⟨r % 1024, Nat.mod_lt _ (by decide)⟩ ⟨c % 1024, Nat.mod_lt _ (by decide)⟩)

/-- An element's bin as the kernel computes it. -/
def binK (x : Vec Ideal S1024x1024 .f32) (r c : ℕ) : BitVec 32 := binE (F := Ideal) (k0_pay1 x) (k0_pay2 x) (elt x r c)

/-- A bin is at most 255. -/
theorem binK_le (x : Vec Ideal S1024x1024 .f32) (r c : ℕ) : (binK x r c).toNat ≤ 255 := by
  unfold binK binE
  exact clampW_le _

/-- The number of an element's pair of bins. -/
def key (x y : Vec Ideal S1024x1024 .f32) (r c : ℕ) : ℕ := 256 * (binK x r c).toNat + (binK y r c).toNat

/-- The elements whose pair of bins is number `q`. -/
def pairs (x y : Vec Ideal S1024x1024 .f32) (q : ℕ) : ℕ := ∑ r ∈ Finset.range 1024, ∑ c ∈ Finset.range 1024, if key x y r c = q then 1 else 0

/-! ## One word -/

/-- A pair of bins as a word. -/
theorem pair_toNat (a b : BitVec 32) (ha : a.toNat ≤ 255) (hb : b.toNat ≤ 255) : (a * 256#32 + b).toNat = 256 * a.toNat + b.toNat := by
  rw [BitVec.toNat_add, BitVec.toNat_mul]
  show (a.toNat * 256 % 2 ^ 32 + b.toNat) % 2 ^ 32 = _
  omega

/-- Two half words packed into one. -/
theorem pack_toNat (a b : BitVec 32) (ha : a.toNat < 65536) (hb : b.toNat < 65536) : (a ||| (b <<< (16#32 : BitVec 32))).toNat = a.toNat + 65536 * b.toNat := by
  have e : (b <<< (16#32 : BitVec 32)).toNat = b.toNat <<< 16 := by
    simp [Nat.shiftLeft_eq]; omega
  rw [BitVec.toNat_or, e, Nat.or_comm, ← Nat.shiftLeft_add_eq_or_of_lt (show a.toNat < 2 ^ 16 by omega), Nat.shiftLeft_eq]
  omega

/-- A packed word's count is that of its two halves. -/
theorem hit_pack (a b : BitVec 32) (ha : a.toNat < 65536) (hb : b.toNat < 65536) (q : ℕ) :
    hit (a ||| (b <<< (16#32 : BitVec 32))) q = (if a.toNat = q then 1 else 0) + (if b.toNat = q then 1 else 0) := by
  unfold hit
  rw [pack_toNat a b ha hb, show (a.toNat + 65536 * b.toNat) % 65536 = a.toNat by omega, show (a.toNat + 65536 * b.toNat) / 65536 = b.toNat by omega]

/-- A pair of bins as the kernel's word. -/
def pairW (x y : Vec Ideal S1024x1024 .f32) (r c : ℕ) : BitVec 32 := IntOp.addi (IntOp.muli (binK x r c) 256#32) (binK y r c)

/-- The word of a pair of bins is its number. -/
theorem pairW_toNat (x y : Vec Ideal S1024x1024 .f32) (r c : ℕ) : (pairW x y r c).toNat = key x y r c := by
  unfold pairW key
  exact pair_toNat _ _ (binK_le _ _ _) (binK_le _ _ _)

/-- The number of a pair of bins fits a half word. -/
theorem key_lt (x y : Vec Ideal S1024x1024 .f32) (r c : ℕ) : key x y r c < 65536 := by
  have h1 : (binK x r c).toNat ≤ 255 := binK_le _ _ _
  have h2 : (binK y r c).toNat ≤ 255 := binK_le _ _ _
  unfold key
  omega

/-- The second array's least element is computed as the first's. -/
theorem pay3_eq (y : Vec Ideal S1024x1024 .f32) : k0_pay3 (F := Ideal) y = k0_pay1 y := by
  unfold k0_pay3 k0_pay1
  with_reducible rfl
/-- The second array's greatest element is computed as the first's. -/
theorem pay4_eq (y : Vec Ideal S1024x1024 .f32) : k0_pay4 (F := Ideal) y = k0_pay2 y := by
  unfold k0_pay4 k0_pay2
  with_reducible rfl

/-- The second pass's words before they are packed, at an element. -/
theorem pay2_at {F : FTy → Type} [FloatOps F] (X Y : Vec F S1024x256 .f32) (xa xb ya yb : F .f32) (j : S1024x256.Idx) :
    k1_pay2 X xa xb xa Y ya yb ya j = IntOp.addi (IntOp.muli (binE xa xb (X j)) 256#32) (binE ya yb (Y j)) := rfl

/-- The pairs of bins of one block of columns. -/
theorem pay2_apply (x y : Vec Ideal S1024x1024 .f32) (b : ℕ) (j : S1024x256.Idx) :
    k1_pay2 (F := Ideal) (colBlk b x) (k0_pay1 x) (k0_pay2 x) (k0_pay1 x) (colBlk b y) (k0_pay3 y) (k0_pay4 y) (k0_pay3 y) j
      = pairW x y (j 0).val (256 * b + (j 1).val) := by
  have e : ∀ z : Vec Ideal S1024x1024 .f32, colBlk b z j = elt z (j 0).val (256 * b + (j 1).val) := fun z => by
    unfold colBlk elt
    refine congrArg z (funext fun a => ?_)
    have h0 : (j 0).val < 1024 := (j 0).isLt
    match a with
    | 0 => exact Fin.ext (Nat.mod_eq_of_lt h0).symm
    | 1 => rfl
  unfold pairW binK
  rw [← e, ← e, pay3_eq, pay4_eq]
  exact pay2_at _ _ _ _ _ _ j

/-- A word of the packed array. -/
theorem packed_apply (x y : Vec Ideal S1024x1024 .f32) (j : S4096x128.Idx) :
    packed (mmVal x y) x y j
      = pairW x y ((j 0).val % 1024) (256 * ((j 0).val / 1024) + (j 1).val)
          ||| (pairW x y ((j 0).val % 1024) (256 * ((j 0).val / 1024) + (128 + (j 1).val)) <<< (16#32 : BitVec 32)) := by
  have hc : (j 1).val < 128 := (j 1).isLt
  unfold packed wordBlk
  rw [show mmVal x y (at4 0) = k0_pay1 x from rfl, show mmVal x y (at4 1) = k0_pay2 x from rfl, show mmVal x y (at4 2) = k0_pay3 y from rfl,
    show mmVal x y (at4 3) = k0_pay4 y from rfl]
  rw [← pay2_apply x y ((j 0).val / 1024) (ix2 ⟨(j 0).val % 1024, Nat.mod_lt _ (by decide)⟩ ⟨(j 1).val, by have : (j 1).val < 128 := (j 1).isLt; omega⟩),
    ← pay2_apply x y ((j 0).val / 1024) (ix2 ⟨(j 0).val % 1024, Nat.mod_lt _ (by decide)⟩ ⟨128 + (j 1).val, by have : (j 1).val < 128 := (j 1).isLt; omega⟩)]
  unfold k1_pay1 k1_pay3
  generalize k1_pay2 (F := Ideal) _ _ _ _ _ _ _ _ = Z
  have e1 : ∀ J : S1024x128.Idx, extractStridedSlice S1024x128 ![0, 0] Z slices_S1024x256_o0_0_S1024x128 J
      = Z (ix2 ⟨(J 0).val, (J 0).isLt⟩ ⟨(J 1).val, Nat.lt_trans (J 1).isLt (by decide)⟩) := fun J =>
    extractStridedSlice_apply _ _ _ _ _ (by intro a; match a with | 0 => exact (Nat.zero_add _).symm | 1 => exact (Nat.zero_add _).symm)
  have e2 : ∀ J : S1024x128.Idx, extractStridedSlice S1024x128 ![0, 128] Z slices_S1024x256_o0_128_S1024x128 J
      = Z (ix2 ⟨(J 0).val, (J 0).isLt⟩ ⟨128 + (J 1).val, Nat.add_lt_add_left (J 1).isLt 128⟩) := fun J =>
    extractStridedSlice_apply _ _ _ _ _ (by intro a; match a with | 0 => exact (Nat.zero_add _).symm | 1 => rfl)
  have e3 := e1 (inBlk j)
  have e4 := e2 (inBlk j)
  generalize extractStridedSlice S1024x128 ![0, 0] Z slices_S1024x256_o0_0_S1024x128 = A at e3 ⊢
  generalize extractStridedSlice S1024x128 ![0, 128] Z slices_S1024x256_o0_128_S1024x128 = B at e4 ⊢
  show A (inBlk j) ||| (B (inBlk j) <<< (16#32 : BitVec 32)) = _
  rw [e3, e4]
  rfl

/-! ## All the words -/

/-- Word `i` of the flat words. -/
theorem words_at (x y : Vec Ideal S1024x1024 .f32) (i : ℕ) (hi : i < 524288) :
    wN (wordsV x y) i = pairW x y (i / 128 % 1024) (256 * (i / 128 / 1024) + i % 128)
      ||| (pairW x y (i / 128 % 1024) (256 * (i / 128 / 1024) + (128 + i % 128)) <<< (16#32 : BitVec 32)) := by
  unfold wN wordsV
  rw [shapeCast_apply _ _ _ (ix2 ⟨i / 128, by omega⟩ ⟨i % 128, by omega⟩ : S4096x128.Idx), packed_apply]
  rw [Shape.rowMajor_val_two, Shape.rowMajor_val_one]
  show i / 128 * 128 + i % 128 = i % 524288
  omega

/-- The halves of all the words are the elements' pairs of bins. -/
theorem words_count (x y : Vec Ideal S1024x1024 .f32) (q : ℕ) :
    (∑ i ∈ Finset.range 524288, hit (wN (wordsV x y) i) q) = pairs x y q := by
  have e : ∀ i ∈ Finset.range 524288, hit (wN (wordsV x y) i) q
      = (if key x y (i / 128 % 1024) (256 * (i / 128 / 1024) + i % 128) = q then 1 else 0)
        + (if key x y (i / 128 % 1024) (256 * (i / 128 / 1024) + (128 + i % 128)) = q then 1 else 0) := fun i hi => by
    rw [words_at x y i (Finset.mem_range.1 hi), hit_pack _ _ (by rw [pairW_toNat]; exact key_lt _ _ _ _) (by rw [pairW_toNat]; exact key_lt _ _ _ _),
      pairW_toNat, pairW_toNat]
  rw [Finset.sum_congr rfl e, show (524288 : ℕ) = 4096 * 128 from rfl, sum_blocks, show (4096 : ℕ) = 4 * 1024 from rfl, sum_blocks]
  unfold pairs
  rw [Finset.sum_comm]
  refine Finset.sum_congr rfl fun r hr => ?_
  have hr' : r < 1024 := Finset.mem_range.1 hr
  rw [show Finset.range 1024 = Finset.range (4 * 256) from rfl, sum_blocks]
  refine Finset.sum_congr rfl fun b _ => ?_
  rw [show Finset.range 256 = Finset.range (128 + 128) from rfl, Finset.sum_range_add, ← Finset.sum_add_distrib]
  refine Finset.sum_congr rfl fun c hc => ?_
  have hc' : c < 128 := Finset.mem_range.1 hc
  have h1 : (128 * (1024 * b + r) + c) / 128 = 1024 * b + r := by omega
  have h2 : (128 * (1024 * b + r) + c) % 128 = c := by omega
  have h3 : (1024 * b + r) % 1024 = r := by omega
  have h4 : (1024 * b + r) / 1024 = b := by omega
  rw [h1, h2, h3, h4]

/-- The tiles' histograms together hold at each place the number of elements whose pair of bins it is. -/
theorem hist_total (x y : Vec Ideal S1024x1024 .f32) (j : S512x128.Idx) :
    (∑ t : Fin 32, (outV (F := Ideal) (wordsV x y) (ix3 t (j 0) (j 1)) : EReal)) = ((pairs x y (place j) : ℕ) : EReal) := by
  rw [← words_count, ← sum_tiles, Nat.cast_sum]
  exact Finset.sum_congr rfl fun t _ => outV_apply _ _

end Cert.Proof.IdealRun
-- ==== Proof.Ideal.RefVal.lean ====
module

public import proofs.«01_k».proof.Proof.Gen.ReferenceIdeal.Run

/-!
# The reference's value, in layers

The reference's result is one long term over its two arguments.  Here it is cut into the steps of the mathematics: the extremes of an array, the bins, the three
histograms, the probabilities, the mutual information, the two entropies and the loss.
-/

@[expose] public section

set_option maxRecDepth 16384

noncomputable section

namespace Cert.Proof.RefVal

open Cert.ReferenceIdeal Cert.ReferenceIdeal.Gen Idealize.ShloMosaic Idealize.ShloMosaic.TcCoe

variable {F : FTy → Type} [FloatOps F]

/-- A scalar constant. -/
def cst (b : BitVec 32) : Vec F S_ .f32 := constant S_ .f32 b

/-- The least element of an array. -/
def mnR (x : Vec F S1024x1024 .f32) : Vec F S_ .f32 := Host.reduce FloatOps.minimumf x (cst 0x7F800000#32) reducesTo_S1024x1024_S_d0_1 h_S_
/-- The greatest element of an array. -/
def mxR (x : Vec F S1024x1024 .f32) : Vec F S_ .f32 := Host.reduce FloatOps.maximumf x (cst 0xFF800000#32) reducesTo_S1024x1024_S_d0_1 h_S_

/-- The array shifted and scaled to the unit interval. -/
def normR (x : Vec F S1024x1024 .f32) : Vec F S1024x1024 .f32 :=
  Host.divf (subf x (broadcastInDim S1024x1024 ![] bcast_S_S1024x1024 (mnR x)))
    (broadcastInDim S1024x1024 ![] bcast_S_S1024x1024 (addf (subf (mxR x) (mnR x)) (cst 0x322BCC77#32)))

/-- Each element's bin. -/
def binR (x : Vec F S1024x1024 .f32) : IVec S1024x1024 32 :=
  minsi (broadcastInDim S1024x1024 ![] bcast_S_S1024x1024 (id (constantI S_ 32 255#32)))
    (maxsi (broadcastInDim S1024x1024 ![] bcast_S_S1024x1024 (id (constantI S_ 32 0#32)))
      (fptosi 32 (Host.floor (mulf (normR x) (broadcastInDim S1024x1024 ![] bcast_S_S1024x1024 (cst 0x43800000#32))))))

/-- The bins as one list. -/
def flatR (x : Vec F S1024x1024 .f32) : IVec S1048576 32 := shapeCast S1048576 (binR x) shapeCasts_S1024x1024_S1048576

/-- An index counted from the end where it is negative. -/
def wrapR (v : IVec S1048576 32) : IVec S1048576 32 :=
  select (cmpi .slt v (broadcastInDim S1048576 ![] bcast_S_S1048576 (constantI S_ 32 0#32)))
    (addi v (broadcastInDim S1048576 ![] bcast_S_S1048576 (constantI S_ 32 256#32))) v

/-- The list as a column. -/
def colR (v : IVec S1048576 32) : IVec S1048576x1 32 := broadcastInDim S1048576x1 ![0] bcast_S1048576_S1048576x1_0 (wrapR v)

/-- The joint histogram. -/
def histXY (x y : Vec F S1024x1024 .f32) : Vec F S256x256 .f32 :=
  Host.scatterAdd scatter_S256x256_S1048576x2_S1048576_n_01_01_1 (broadcastInDim S256x256 ![] bcast_S_S256x256 (cst 0x00000000#32))
    (Value.fn_main_v43 (F := F) (colR (flatR x)) (colR (flatR y))) (broadcastInDim S1048576 ![] bcast_S_S1048576 (cst 0x3F800000#32))

/-- The histogram of one array. -/
def hist1 (x : Vec F S1024x1024 .f32) : Vec F S256 .f32 :=
  Host.scatterAdd scatter_S256_S1048576x1_S1048576_n_0_0_1 (broadcastInDim S256 ![] bcast_S_S256 (cst 0x00000000#32))
    (colR (flatR x)) (broadcastInDim S1048576 ![] bcast_S_S1048576 (cst 0x3F800000#32))

/-- The joint probabilities. -/
def pXY (x y : Vec F S1024x1024 .f32) : Vec F S256x256 .f32 := Host.divf (histXY x y) (broadcastInDim S256x256 ![] bcast_S_S256x256 (cst 0x49800000#32))
/-- The probabilities of one array. -/
def p1 (x : Vec F S1024x1024 .f32) : Vec F S256 .f32 := Host.divf (hist1 x) (broadcastInDim S256 ![] bcast_S_S256 (cst 0x49800000#32))

/-- Where all three probabilities are positive. -/
def maskR (p : Vec F S256x256 .f32) (px py : Vec F S256 .f32) : IVec S256x256 1 :=
  andi (andi (cmpf .ogt p (broadcastInDim S256x256 ![] bcast_S_S256x256 (cst 0x00000000#32)))
    (broadcastInDim S256x256 ![0, 1] bcast_S256x1_S256x256_0_1 (cmpf .ogt (broadcastInDim S256x1 ![0] bcast_S256_S256x1_0 px)
      (broadcastInDim S256x1 ![] bcast_S_S256x1 (cst 0x00000000#32)))))
    (broadcastInDim S256x256 ![0, 1] bcast_S1x256_S256x256_0_1 (cmpf .ogt (broadcastInDim S1x256 ![1] bcast_S256_S1x256_1 py)
      (broadcastInDim S1x256 ![] bcast_S_S1x256 (cst 0x00000000#32))))

/-- The terms of the mutual information. -/
def termR (p : Vec F S256x256 .f32) (px py : Vec F S256 .f32) : Vec F S256x256 .f32 :=
  select (maskR p px py)
    (mulf p (Host.log (select (maskR p px py)
      (Host.divf p (select (maskR p px py)
        (mulf (broadcastInDim S256x256 ![0, 1] bcast_S256x1_S256x256_0_1 (broadcastInDim S256x1 ![0] bcast_S256_S256x1_0 px))
          (broadcastInDim S256x256 ![0, 1] bcast_S1x256_S256x256_0_1 (broadcastInDim S1x256 ![1] bcast_S256_S1x256_1 py)))
        (broadcastInDim S256x256 ![] bcast_S_S256x256 (id (cst 0x3F800000#32)))))
      (broadcastInDim S256x256 ![] bcast_S_S256x256 (id (cst 0x3F800000#32))))))
    (broadcastInDim S256x256 ![] bcast_S_S256x256 (id (cst 0x00000000#32)))

/-- The entropy of one array's probabilities. -/
def entR (p : Vec F S256 .f32) : Vec F S_ .f32 :=
  Host.negf (Host.reduceAdd (mulf p (Host.log (addf p (broadcastInDim S256 ![] bcast_S_S256 (cst 0x322BCC77#32))))) (cst 0x00000000#32) reducesTo_S256_S_d0 h_S_)

/-- The loss from the probabilities. -/
def lossR (p : Vec F S256x256 .f32) (px py : Vec F S256 .f32) : Vec F S_ .f32 :=
  Host.negf (Host.divf (Host.reduceAdd (termR p px py) (cst 0x00000000#32) reducesTo_S256x256_S_d0_1 h_S_)
    (addf (Host.sqrt (mulf (entR px) (entR py))) (cst 0x322BCC77#32)))

/-- The reference's result from its two arguments. -/
def refV (x y : Vec F S1024x1024 .f32) : Vec F S_ .f32 := lossR (pXY x y) (p1 x) (p1 y)

set_option maxHeartbeats 2000000 in
/-- The reference's run ends with the layered value. -/
theorem res_eq (m : (ℓ : Loc nD τ sig) → Buf (Elt F) ℓ) (c : Dev nD) :
    Value.res_main_v110 m c = refV (m ((c.tc : Thread nD τ).loc main_arg0)) (m ((c.tc : Thread nD τ).loc main_arg1)) := by
  unfold Value.res_main_v110
  rfl

end Cert.Proof.RefVal
-- ==== Proof.Ideal.RefBins.lean ====
module

public import proofs.«01_k».proof.Proof.Ideal.Words
public import proofs.«01_k».proof.Proof.Ideal.RefVal
public import Idealize.ShloMosaic.Lib.Routing.OpsPair
public import Idealize.ShloMosaic.Lib.Routing.Ops

/-!
# The reference's bins and histograms

The reference's extremes and bins are the kernel's, and each of its three histograms counts elements.
-/

@[expose] public section

set_option maxRecDepth 16384

noncomputable section

namespace Cert.Proof.IdealRun

open Cert.KernelIdeal Cert.KernelIdeal.Gen Idealize.ShloMosaic Idealize.ShloMosaic.ValueIdx Idealize.ShloMosaic.Routing
open scoped BigOperators
open Cert.Proof.RefVal

/-! ## The extremes -/

/-- A number's list of positions, renamed along an equality of bounds. -/
theorem finRange_renamed {m n : ℕ} (h : m = n) : List.finRange n = (List.finRange m).map (Fin.cast h) := by
  subst h
  exact (List.map_id _).symm

/-- A reduction to one element folds all elements in row-major order, whatever shape they are held in. -/
theorem reduce_all {α : Type} {s s' t t' u : Shape} {axes : List (Fin s'.rank)} {axes' : List (Fin s.rank)} (f : α → α → α) (x : s.Idx → α) (init : α)
    (hc : s.ShapeCasts s') (h : s'.Reduces axes t) (h' : s.ReducesTo axes' t') (hu : 0 < u.numel) (ht : ∀ a b : t.Idx, a = b) (ht' : ∀ a b : t'.Idx, a = b)
    (j : t.Idx) (j' : t'.Idx) : reduceFold h f init (shapeCast s' x hc) j = Host.reduce f x (fun _ : u.Idx => init) h' hu j' := by
  have hn : s'.numel = s.numel := hc
  unfold reduceFold Host.reduce
  rw [List.filter_eq_self.2 fun a _ => decide_eq_true (ht _ _), List.filter_eq_self.2 fun a _ => decide_eq_true (ht' _ _), finRange_renamed hn, List.foldl_map]
  refine congrArg (fun g => List.foldl g init (List.finRange s'.numel)) (funext fun r => funext fun n => congrArg (f r) ?_)
  unfold shapeCast Shape.reshapeEquiv
  simp only [Equiv.trans_apply, Equiv.apply_symm_apply]
  rfl

/-- A one-element vector has one index. -/
theorem one_S1 (a b : S1.Idx) : a = b := funext fun i => Fin.ext (by
  match i with
  | 0 =>
    have h1 : (a 0).val < 1 := (a 0).isLt
    have h2 : (b 0).val < 1 := (b 0).isLt
    show (a 0).val = (b 0).val
    omega)

/-- A scalar has one index. -/
theorem one_S0 (a b : S_.Idx) : a = b := funext fun i => i.elim0

section Generic
variable {F : FTy → Type} [FloatOps F]

/-- The one element of a one-element vector, read through a reshape. -/
theorem extract_one {α : Type} (v : S1.Idx → α) : extractAt ![0, 0, 0] (shapeCast S1x1x1 v shapeCasts_S1_S1x1x1) inpos_S1x1x1_p0_0_0 = v (ix1 0) :=
  congrArg v (one_S1 _ _)

/-- A least-element reduction is a fold. -/
theorem multi_min {s t : Shape} (axes : List (Fin s.rank)) (v : FVec F s .f32) (h : s.Reduces axes t) (h1) (h2) :
    multiReduction .minimumf axes t v 0x7F800000#32 h h1 h2 = reduceFold h FloatOps.minimumf (FloatOps.ofBits .f32 0x7F800000#32) v := rfl
/-- A greatest-element reduction is a fold. -/
theorem multi_max {s t : Shape} (axes : List (Fin s.rank)) (v : FVec F s .f32) (h : s.Reduces axes t) (h1) (h2) :
    multiReduction .maximumf axes t v 0xFF800000#32 h h1 h2 = reduceFold h FloatOps.maximumf (FloatOps.ofBits .f32 0xFF800000#32) v := rfl

/-- The kernel's least element is a fold over the array. -/
theorem pay1_fold (x : Vec F S1024x1024 .f32) : k0_pay1 x
    = reduceFold reduces_S1x1024x1024_S1 FloatOps.minimumf (FloatOps.ofBits .f32 0x7F800000#32) (shapeCast S1x1024x1024 x shapeCasts_S1024x1024_S1x1024x1024) (ix1 0) := by
  unfold k0_pay1
  rw [← multi_min [1, 2] _ reduces_S1x1024x1024_S1 (.inl rfl) rfl]
  exact extract_one _

/-- The kernel's greatest element is a fold over the array. -/
theorem pay2_fold (x : Vec F S1024x1024 .f32) : k0_pay2 x
    = reduceFold reduces_S1x1024x1024_S1 FloatOps.maximumf (FloatOps.ofBits .f32 0xFF800000#32) (shapeCast S1x1024x1024 x shapeCasts_S1024x1024_S1x1024x1024) (ix1 0) := by
  unfold k0_pay2
  rw [← multi_max [1, 2] _ reduces_S1x1024x1024_S1 (.inl rfl) rfl]
  exact extract_one _

/-- The least element is the kernel's. -/
theorem mnR_eq (x : Vec F S1024x1024 .f32) : mnR x ix0 = k0_pay1 x := by
  rw [pay1_fold]
  unfold mnR
  exact (reduce_all _ x _ _ _ _ _ one_S1 one_S0 _ _).symm

/-- The greatest element is the kernel's. -/
theorem mxR_eq (x : Vec F S1024x1024 .f32) : mxR x ix0 = k0_pay2 x := by
  rw [pay2_fold]
  unfold mxR
  exact (reduce_all _ x _ _ _ _ _ one_S1 one_S0 _ _).symm

/-- An element's bin in the reference, operation by operation. -/
theorem binR_at (x : Vec F S1024x1024 .f32) (j : S1024x1024.Idx) :
    binR x j = clampW (FloatOps.fptosi 32 (FloatOps.hostUnary .floor (FloatOps.mulf (FloatOps.hostDivf (FloatOps.subf (x j) (k0_pay1 x))
      (FloatOps.addf (FloatOps.subf (k0_pay2 x) (k0_pay1 x)) (FloatOps.ofBits .f32 0x322BCC77#32))) (FloatOps.ofBits .f32 0x43800000#32)))) := by
  rw [← mnR_eq, ← mxR_eq]
  have e0 : ∀ v : S_.Idx → F .f32, broadcastInDim S1024x1024 ![] Cert.ReferenceIdeal.Gen.bcast_S_S1024x1024 v j = v ix0 := fun v => bc0 Cert.ReferenceIdeal.Gen.bcast_S_S1024x1024 v j
  have e1 : normR x j = FloatOps.hostDivf (FloatOps.subf (x j) (mnR x ix0)) (FloatOps.addf (FloatOps.subf (mxR x ix0) (mnR x ix0)) (FloatOps.ofBits .f32 0x322BCC77#32)) := by
    unfold normR
    exact congrArg₂ FloatOps.hostDivf (congrArg (FloatOps.subf (x j)) (e0 _)) (e0 _)
  rw [← e1, ← show broadcastInDim S1024x1024 ![] Cert.ReferenceIdeal.Gen.bcast_S_S1024x1024 (cst (F := F) 0x43800000#32) j = FloatOps.ofBits .f32 0x43800000#32 from e0 _]
  rfl

end Generic

/-- The host's floor is the kernel's at ideal values. -/
theorem host_floor (v : Ideal .f32) : FloatOps.hostUnary .floor v = FloatOps.floor v := rfl
/-- The host's quotient of two ideal values is the kernel's. -/
theorem host_div (v w : Ideal .f32) : FloatOps.hostDivf v w = FloatOps.divf v w := rfl
/-- The scalar unit's sum is the vector unit's at ideal values. -/
theorem scalar_add (v w : Ideal .f32) : Scalar.addf v w = FloatOps.addf v w := rfl
/-- The scalar unit's difference is the vector unit's at ideal values. -/
theorem scalar_sub (v w : Ideal .f32) : Scalar.subf v w = FloatOps.subf v w := rfl
/-- A scalar literal is the vector unit's at ideal values. -/
theorem scalar_bits (b : BitVec 32) : (Scalar.ofBits .f32 b : Ideal .f32) = FloatOps.ofBits .f32 b := rfl

/-- An element's bin in the reference is the kernel's. -/
theorem binR_eq (x : Vec Ideal S1024x1024 .f32) (r c : ℕ) (hr : r < 1024) (hc : c < 1024) : binR x (ix2 ⟨r, hr⟩ ⟨c, hc⟩) = binK x r c := by
  have e : elt x r c = x (ix2 ⟨r, hr⟩ ⟨c, hc⟩) := by
    unfold elt
    refine congrArg x (funext fun a => ?_)
    match a with
    | 0 => exact Fin.ext (Nat.mod_eq_of_lt hr)
    | 1 => exact Fin.ext (Nat.mod_eq_of_lt hc)
  rw [binR_at, host_floor, host_div, ← e]
  unfold binK binE
  rw [scalar_add, scalar_sub, scalar_bits, scalar_bits]

end Cert.Proof.IdealRun
-- ==== Proof.Ideal.RefHist.lean ====
module

public import proofs.«01_k».proof.Proof.Ideal.RefBins
public import Idealize.ShloMosaic.Lib.IdealHost

/-!
# The reference's histograms

Each of the reference's three histograms counts elements: the joint one the elements of a pair of bins, the others the elements of one bin.
-/

@[expose] public section

set_option maxRecDepth 16384

noncomputable section

namespace Cert.Proof.RefVal

open Cert.ReferenceIdeal Cert.ReferenceIdeal.Gen Idealize.ShloMosaic Idealize.ShloMosaic.ValueIdx Idealize.ShloMosaic.Routing
open scoped BigOperators
open Cert.Proof.IdealRun (binK binK_le binR_eq key pairs sum_blocks)

/-! ## Where an update lands -/

/-- An update of a scatter of scalars by rows of index words starts, on an axis, at its row's word for that axis. -/
theorem start_row {s : Shape} {N k w : ℕ} (d : ScatterDims s (shape2 N k) (shape1 N)) (hv : d.indexVectorDim = 1) (idx : IVec (shape2 N k) w) (n : Fin N) (q : Fin k)
    (a : Fin s.rank) (hm : a ∈ d.scatterDimsToOperandDims) (hq : d.scatterDimsToOperandDims.idxOf a = q.val) :
    d.start (ix1 n) idx a = (idx (ix2 n q)).toInt := by
  have e : d.siIdx (ix1 n) ⟨d.scatterDimsToOperandDims.idxOf a, List.idxOf_lt_length_iff.2 hm⟩ = ix2 n q := by
    refine funext fun b => Fin.ext ?_
    match b with
    | ⟨0, _⟩ =>
      unfold ScatterDims.siIdx
      rw [dif_neg (by rw [hv]; exact Nat.zero_ne_one)]
      unfold ScatterDims.siCoord
      simp only [Fin.val_cast]
      have only : ∀ z : Fin 1, (ix1 n z).val = n.val := fun z => match z with | ⟨0, _⟩ => rfl
      exact only _
    | ⟨1, _⟩ =>
      unfold ScatterDims.siIdx
      rw [dif_pos hv.symm]
      exact hq
  unfold ScatterDims.start
  rw [dif_pos hm, e]

/-- A scatter of scalars has no window: its coordinate is zero on every axis that is inserted. -/
theorem window_none {s si u : Shape} (d : ScatterDims s si u) (k : u.Idx) (a : Fin s.rank) (hi : a ∈ d.insertedWindowDims) : d.window k a = 0 := by
  unfold ScatterDims.window
  have hn : ¬ a ∈ d.sKept := fun h => absurd hi (of_decide_eq_true (List.mem_filter.1 h).2)
  rw [dif_neg hn]

/-- A word below a half of its range, read signed, is a number exactly when it is that number read unsigned. -/
theorem signed_eq (b : BitVec 32) (h : b.toNat ≤ 255) (v : ℕ) : (b.toInt = (v : ℤ)) ↔ b.toNat = v := by
  rw [BitVec.toInt_eq_toNat_cond, if_pos (by omega)]
  exact Int.ofNat_inj

/-- Where an update of the joint histogram lands. -/
theorem lands_joint (idx : IVec S1048576x2 32) (n : Fin 1048576) (a b : Fin 256) :
    scatter_S256x256_S1048576x2_S1048576_n_01_01_1.resultIdx? (ix1 n) idx = some (ix2 a b)
      ↔ (idx (ix2 n (0 : Fin 2))).toInt = (a.val : ℤ) ∧ (idx (ix2 n (1 : Fin 2))).toInt = (b.val : ℤ) := by
  have hw : ∀ q : Fin 2, scatter_S256x256_S1048576x2_S1048576_n_01_01_1.window (ix1 n) q = 0 := fun q =>
    window_none _ _ _ (by show q ∈ ([0, 1] : List (Fin 2)); fin_cases q <;> simp)
  have hs : ∀ q : Fin 2, scatter_S256x256_S1048576x2_S1048576_n_01_01_1.start (ix1 n) idx q = (idx (ix2 n q)).toInt := fun q =>
    start_row (k := 2) scatter_S256x256_S1048576x2_S1048576_n_01_01_1 rfl idx n q q (by show q ∈ ([0, 1] : List (Fin 2)); fin_cases q <;> simp)
      (by show ([0, 1] : List (Fin 2)).idxOf q = q.val; fin_cases q <;> rfl)
  rw [resultIdx?_ix2, hw, hw, hs, hs]
  simp

/-- Where an update of one array's histogram lands. -/
theorem lands_one (idx : IVec S1048576x1 32) (n : Fin 1048576) (a : Fin 256) :
    scatter_S256_S1048576x1_S1048576_n_0_0_1.resultIdx? (ix1 n) idx = some (ix1 a) ↔ (idx (ix2 n (0 : Fin 1))).toInt = (a.val : ℤ) := by
  have hw : scatter_S256_S1048576x1_S1048576_n_0_0_1.window (ix1 n) 0 = 0 := window_none _ _ _ (List.mem_singleton.2 rfl)
  have hs : scatter_S256_S1048576x1_S1048576_n_0_0_1.start (ix1 n) idx 0 = (idx (ix2 n (0 : Fin 1))).toInt :=
    start_row (k := 1) scatter_S256_S1048576x1_S1048576_n_0_0_1 rfl idx n 0 0 (List.mem_singleton.2 rfl) rfl
  rw [resultIdx?_ix1, hw, hs]
  simp

/-! ## The index words -/

/-- An element's bin in the list's order. -/
theorem flatR_at (x : Vec Ideal S1024x1024 .f32) (n : Fin 1048576) : flatR x (ix1 n) = binK x (n.val / 1024) (n.val % 1024) := by
  unfold flatR
  rw [cast21 (binR x) shapeCasts_S1024x1024_S1048576 ⟨n.val / 1024, by omega⟩ ⟨n.val % 1024, by omega⟩ n (by show n.val = n.val / 1024 * 1024 + n.val % 1024; omega)]
  exact binR_eq x _ _ _ _

/-- The wrap of an index leaves a bin as it is. -/
theorem wrapR_at (v : IVec S1048576 32) (n : Fin 1048576) (h : (v (ix1 n)).toNat ≤ 255) : wrapR v (ix1 n) = v (ix1 n) := by
  have e : ∀ b : BitVec 32, broadcastInDim S1048576 ![] bcast_S_S1048576 (constantI S_ 32 b) (ix1 n) = b := fun b => bc0 bcast_S_S1048576 (constantI S_ 32 b) (ix1 n)
  have e' : wrapR v (ix1 n) = Scalar.select (IntOp.cmpi .slt (v (ix1 n)) 0#32) (IntOp.addi (v (ix1 n)) 256#32) (v (ix1 n)) := by
    unfold wrapR
    rw [← e 0#32, ← e 256#32]
    rfl
  rw [e']
  exact wrap_of_lt _ _ (by show _ < 2147483648; omega)

/-- The column of index words holds the bins. -/
theorem colR_at (x : Vec Ideal S1024x1024 .f32) (n : Fin 1048576) : colR (flatR x) (ix2 n (0 : Fin 1)) = binK x (n.val / 1024) (n.val % 1024) := by
  unfold colR
  refine (bcCol bcast_S1048576_S1048576x1_0 (wrapR (flatR x)) n).trans ?_
  rw [wrapR_at _ _ (by rw [flatR_at]; exact binK_le _ _ _), flatR_at]

/-- The rows of index words, first word. -/
theorem rows_fst (a b : IVec S1048576x1 32) (n : Fin 1048576) : Value.fn_main_v43 (F := Ideal) a b (ix2 n (0 : Fin 2)) = a (ix2 n (0 : Fin 1)) := by
  unfold Value.fn_main_v43
  exact concatenate_pair_apply_left 1 a b concatenates_S1048576x1_S1048576x1_S1048576x2_d1 (ix2 n (0 : Fin 2)) rfl (ix2 n (0 : Fin 1)) fun q =>
    match q with
    | ⟨0, _⟩ => rfl
    | ⟨1, _⟩ => rfl

/-- The rows of index words, second word. -/
theorem rows_snd (a b : IVec S1048576x1 32) (n : Fin 1048576) : Value.fn_main_v43 (F := Ideal) a b (ix2 n (1 : Fin 2)) = b (ix2 n (0 : Fin 1)) := by
  unfold Value.fn_main_v43
  exact concatenate_pair_apply_right 1 a b concatenates_S1048576x1_S1048576x1_S1048576x2_d1 (ix2 n (1 : Fin 2)) rfl rfl (ix2 n (0 : Fin 1)) (fun q =>
    match q with
    | ⟨0, _⟩ => fun _ => rfl
    | ⟨1, _⟩ => fun h => (h rfl).elim) rfl

/-! ## Counting -/

/-- Scattering ones into zeros counts the updates that land at an element. -/
theorem scatter_ones {s si : Shape} (d : ScatterDims s si (shape1 1048576)) (z : Vec Ideal s .f32) (idx : IVec si 32) (v : Vec Ideal (shape1 1048576) .f32) (i : s.Idx)
    (hz : z i = (0 : EReal)) (hv : ∀ k, v k = (1 : EReal)) (p : ℕ → Prop) [DecidablePred p] (hp : ∀ n : Fin 1048576, d.resultIdx? (ix1 n) idx = some i ↔ p n.val) :
    (Host.scatterAdd (F := Ideal) (φ := .f32) d z idx v i : EReal) = ((∑ n ∈ Finset.range 1048576, if p n then 1 else 0 : ℕ) : EReal) := by
  have e : (Host.scatterAdd (F := Ideal) (φ := .f32) d z idx v i : EReal) = (z i : EReal) + ∑ j ∈ Finset.univ.filter (fun j => d.resultIdx? j idx = some i), (v j : EReal) := rfl
  rw [e, hz, zero_add, Finset.sum_congr rfl fun j _ => hv j, Finset.sum_filter, ← Fin.sum_univ_eq_sum_range (fun n => if p n then 1 else 0) 1048576, Nat.cast_sum]
  refine (Finset.sum_nbij' (fun n : Fin 1048576 => (ix1 n : (shape1 1048576).Idx)) (fun j => j 0) (fun _ _ => Finset.mem_univ _) (fun _ _ => Finset.mem_univ _)
    (fun _ _ => rfl) (fun j _ => (eq_ix1 j).symm) fun n _ => ?_).symm
  by_cases h : p n.val
  · rw [if_pos h, if_pos ((hp n).2 h)]; exact Nat.cast_one
  · rw [if_neg h, if_neg fun q => h ((hp n).1 q)]; exact Nat.cast_zero

/-- A spread zero is zero everywhere. -/
theorem zeros_at {s : Shape} (h : S_.BroadcastsInDim s ![]) (i : s.Idx) : (broadcastInDim s ![] h (cst (F := Ideal) 0x00000000#32) i : EReal) = 0 :=
  (bc0 h (cst (F := Ideal) 0x00000000#32) i).trans Ideal.ofBits_zero_f32

/-- A spread one is one everywhere. -/
theorem ones_at {s : Shape} (h : S_.BroadcastsInDim s ![]) (i : s.Idx) : (broadcastInDim s ![] h (cst (F := Ideal) 0x3F800000#32) i : EReal) = 1 :=
  (bc0 h (cst (F := Ideal) 0x3F800000#32) i).trans Ideal.ofBits_one_f32

/-- A count over the list is a count over rows and columns. -/
theorem count_rows (p : ℕ → ℕ → Prop) [∀ r c, Decidable (p r c)] :
    (∑ n ∈ Finset.range 1048576, if p (n / 1024) (n % 1024) then 1 else 0) = ∑ r ∈ Finset.range 1024, ∑ c ∈ Finset.range 1024, if p r c then 1 else 0 := by
  have e := sum_blocks (fun n => if p (n / 1024) (n % 1024) then 1 else 0) 1024 1024
  rw [show 1024 * 1024 = 1048576 from rfl] at e
  rw [e]
  refine Finset.sum_congr rfl fun r _ => Finset.sum_congr rfl fun c hc => ?_
  have hc := Finset.mem_range.1 hc
  rw [show (1024 * r + c) / 1024 = r by omega, show (1024 * r + c) % 1024 = c by omega]

/-- The joint histogram counts the elements of each pair of bins. -/
theorem joint_at (x y : Vec Ideal S1024x1024 .f32) (a b : Fin 256) : (histXY x y (ix2 a b) : EReal) = ((pairs x y (256 * a.val + b.val) : ℕ) : EReal) := by
  unfold histXY
  rw [scatter_ones _ _ _ _ _ (zeros_at _ _) (fun k => ones_at _ k) (fun n => key x y (n / 1024) (n % 1024) = 256 * a.val + b.val) ?_]
  · refine congrArg (fun n : ℕ => (n : EReal)) ?_
    exact count_rows fun r c => key x y r c = 256 * a.val + b.val
  · intro n
    have h1 := binK_le x (n.val / 1024) (n.val % 1024)
    have h2 := binK_le y (n.val / 1024) (n.val % 1024)
    rw [lands_joint, rows_fst, rows_snd, colR_at, colR_at, signed_eq _ h1, signed_eq _ h2]
    have := a.isLt
    have := b.isLt
    unfold key
    omega

/-- The first array's histogram counts the elements of its bins. -/
theorem one_at (x : Vec Ideal S1024x1024 .f32) (a : Fin 256) :
    (hist1 x (ix1 a) : EReal) = ((∑ r ∈ Finset.range 1024, ∑ c ∈ Finset.range 1024, if (binK x r c).toNat = a.val then 1 else 0 : ℕ) : EReal) := by
  unfold hist1
  rw [scatter_ones _ _ _ _ _ (zeros_at _ _) (fun k => ones_at _ k) (fun n => (binK x (n / 1024) (n % 1024)).toNat = a.val) ?_]
  · refine congrArg (fun n : ℕ => (n : EReal)) ?_
    exact count_rows fun r c => (binK x r c).toNat = a.val
  · intro n
    rw [lands_one, colR_at, signed_eq _ (binK_le x _ _)]

/-- The elements of one bin of the first array, by the second's bins. -/
theorem count_fst (x y : Vec Ideal S1024x1024 .f32) (a : ℕ) :
    (∑ r ∈ Finset.range 1024, ∑ c ∈ Finset.range 1024, if (binK x r c).toNat = a then 1 else 0) = ∑ b ∈ Finset.range 256, pairs x y (256 * a + b) := by
  unfold pairs
  refine Eq.symm (Finset.sum_comm.trans (Finset.sum_congr rfl fun r _ => ?_))
  refine Finset.sum_comm.trans (Finset.sum_congr rfl fun c _ => ?_)
  have h2 := binK_le y r c
  have e : ∀ b ∈ Finset.range 256, (if key x y r c = 256 * a + b then 1 else 0) = if (binK y r c).toNat = b then (if (binK x r c).toNat = a then 1 else 0) else 0 := by
    intro b hb
    have hb := Finset.mem_range.1 hb
    unfold key
    split_ifs <;> omega
  rw [Finset.sum_congr rfl e, Finset.sum_ite_eq, if_pos (Finset.mem_range.2 (by omega))]

/-- The elements of one bin of the second array, by the first's bins. -/
theorem count_snd (x y : Vec Ideal S1024x1024 .f32) (b : ℕ) (hb : b < 256) :
    (∑ r ∈ Finset.range 1024, ∑ c ∈ Finset.range 1024, if (binK y r c).toNat = b then 1 else 0) = ∑ a ∈ Finset.range 256, pairs x y (256 * a + b) := by
  unfold pairs
  refine Eq.symm (Finset.sum_comm.trans (Finset.sum_congr rfl fun r _ => ?_))
  refine Finset.sum_comm.trans (Finset.sum_congr rfl fun c _ => ?_)
  have h1 := binK_le x r c
  have h2 := binK_le y r c
  have e : ∀ a ∈ Finset.range 256, (if key x y r c = 256 * a + b then 1 else 0) = if (binK x r c).toNat = a then (if (binK y r c).toNat = b then 1 else 0) else 0 := by
    intro a ha
    unfold key
    split_ifs <;> omega
  rw [Finset.sum_congr rfl e, Finset.sum_ite_eq, if_pos (Finset.mem_range.2 (by omega))]

end Cert.Proof.RefVal
-- ==== Proof.Ideal.Loss.lean ====
module

public import proofs.«01_k».proof.Proof.Ideal.RefHist
public import proofs.«01_k».proof.Proof.Ideal.Run
public import Idealize.ShloMosaic.Lib.KernelVsHost
public import Idealize.ShloMosaic.Lib.ValueIdxRank1

/-!
# The kernel's loss is the reference's

The kernel sums its partial histograms, divides by the number of elements, and sums the quotients along rows and columns, where the reference counts each array by
itself and divides.  Since the counts are finite the two agree; after that the two losses are the same terms, summed over differently shaped index sets.
-/

@[expose] public section

set_option maxRecDepth 16384

noncomputable section

namespace Cert.Proof.IdealRun

open Cert.KernelIdeal Cert.KernelIdeal.Gen Idealize.ShloMosaic Idealize.ShloMosaic.ValueIdx Idealize.ShloMosaic.Routing
open scoped BigOperators
open Cert.Proof.RefVal

/-! ## The terms, at one element -/

section Generic

variable {F : FTy → Type} [FloatOps F]

/-- Whether all three probabilities are positive. -/
def posE (p u v : F .f32) : BitVec 1 :=
  IntOp.andi (IntOp.andi (FloatOps.cmpf .ogt p (FloatOps.ofBits .f32 0x00000000#32)) (FloatOps.cmpf .ogt u (FloatOps.ofBits .f32 0x00000000#32)))
    (FloatOps.cmpf .ogt v (FloatOps.ofBits .f32 0x00000000#32))

/-- One term of the mutual information, over a logarithm and a quotient. -/
def termE (lg : F .f32 → F .f32) (dv : F .f32 → F .f32 → F .f32) (p u v : F .f32) : F .f32 :=
  Scalar.select (posE p u v)
    (FloatOps.mulf p (lg (Scalar.select (posE p u v) (dv p (Scalar.select (posE p u v) (FloatOps.mulf u v) (FloatOps.ofBits .f32 0x3F800000#32)))
      (FloatOps.ofBits .f32 0x3F800000#32))))
    (FloatOps.ofBits .f32 0x00000000#32)

/-- One term of an entropy, over a logarithm. -/
def entE (lg : F .f32 → F .f32) (p : F .f32) : F .f32 := FloatOps.mulf p (lg (FloatOps.addf p (FloatOps.ofBits .f32 0x322BCC77#32)))

/-- The kernel's mask. -/
def maskK (p : FVec F S256x256 .f32) (u : FVec F S256x1 .f32) (v : FVec F S1x256 .f32) : IVec S256x256 1 :=
  andi (andi (cmpf .ogt p (broadcast S256x256 (Scalar.ofBits .f32 0x00000000#32)))
    (broadcastTo S256x256 (cmpf .ogt u (broadcast S256x1 (Scalar.ofBits .f32 0x00000000#32))) broadcasts_S256x1_S256x256))
    (broadcastTo S256x256 (cmpf .ogt v (broadcast S1x256 (Scalar.ofBits .f32 0x00000000#32))) broadcasts_S1x256_S256x256)

/-- The kernel's terms of the mutual information. -/
def termK (p : FVec F S256x256 .f32) (u : FVec F S256x1 .f32) (v : FVec F S1x256 .f32) : FVec F S256x256 .f32 :=
  select (maskK p u v)
    (mulf p (log (select (maskK p u v)
      (divf p (select (maskK p u v) (mulf (broadcastTo S256x256 u broadcasts_S256x1_S256x256) (broadcastTo S256x256 v broadcasts_S1x256_S256x256))
        (broadcast S256x256 (Scalar.ofBits .f32 0x3F800000#32))))
      (broadcast S256x256 (Scalar.ofBits .f32 0x3F800000#32)))))
    (broadcast S256x256 (Scalar.ofBits .f32 0x00000000#32))

/-- The kernel's terms of an entropy, in any shape. -/
def entK (s : Shape) (u : FVec F s .f32) : FVec F s .f32 := mulf u (log (addf u (broadcast s (Scalar.ofBits .f32 0x322BCC77#32))))

/-- The kernel's term of an entropy at an element. -/
theorem entK_at (s : Shape) (u : FVec F s .f32) (i : s.Idx) : entK s u i = entE FloatOps.log (u i) := rfl

/-- A column spread over a matrix. -/
theorem spread_col {α : Type} (u : S256x1.Idx → α) (a b : Fin 256) : broadcastTo S256x256 u broadcasts_S256x1_S256x256 (ix2 a b) = u (ix2 a (0 : Fin 1)) :=
  broadcastTo_apply u broadcasts_S256x1_S256x256 (ix2 a b) (ix2 a (0 : Fin 1)) fun q =>
    match q with
    | ⟨0, _⟩ => rfl
    | ⟨1, _⟩ => rfl

/-- A row spread over a matrix. -/
theorem spread_row {α : Type} (v : S1x256.Idx → α) (a b : Fin 256) : broadcastTo S256x256 v broadcasts_S1x256_S256x256 (ix2 a b) = v (ix2 (0 : Fin 1) b) :=
  broadcastTo_apply v broadcasts_S1x256_S256x256 (ix2 a b) (ix2 (0 : Fin 1) b) fun q =>
    match q with
    | ⟨0, _⟩ => rfl
    | ⟨1, _⟩ => rfl

/-- The kernel's mask at an element. -/
theorem maskK_at (p : FVec F S256x256 .f32) (u : FVec F S256x1 .f32) (v : FVec F S1x256 .f32) (a b : Fin 256) :
    maskK p u v (ix2 a b) = posE (p (ix2 a b)) (u (ix2 a (0 : Fin 1))) (v (ix2 (0 : Fin 1) b)) := by
  exact congrArg₂ IntOp.andi (congrArg (IntOp.andi _) (spread_col (cmpf .ogt u (broadcast S256x1 (Scalar.ofBits .f32 0x00000000#32))) a b))
    (spread_row (cmpf .ogt v (broadcast S1x256 (Scalar.ofBits .f32 0x00000000#32))) a b)

/-- The kernel's term at an element. -/
theorem termK_at (p : FVec F S256x256 .f32) (u : FVec F S256x1 .f32) (v : FVec F S1x256 .f32) (a b : Fin 256) :
    termK p u v (ix2 a b) = termE FloatOps.log FloatOps.divf (p (ix2 a b)) (u (ix2 a (0 : Fin 1))) (v (ix2 (0 : Fin 1) b)) := by
  unfold termE
  rw [← maskK_at p u v a b, ← spread_col u a b, ← spread_row v a b]
  rfl

/-- The reference's mask at an element. -/
theorem maskR_at (p : Vec F S256x256 .f32) (px py : Vec F S256 .f32) (a b : Fin 256) :
    maskR p px py (ix2 a b) = posE (p (ix2 a b)) (px (ix1 a)) (py (ix1 b)) := by
  have e0 := bc0 Cert.ReferenceIdeal.Gen.bcast_S_S256x256 (cst (F := F) 0x00000000#32) (ix2 a b)
  have e1 := bcRows Cert.ReferenceIdeal.Gen.bcast_S256_S256x1_0 Cert.ReferenceIdeal.Gen.bcast_S256x1_S256x256_0_1 px a b
  have e2 := bcCols Cert.ReferenceIdeal.Gen.bcast_S256_S1x256_1 Cert.ReferenceIdeal.Gen.bcast_S1x256_S256x256_0_1 py a b
  unfold posE
  rw [← e1, ← e2]
  rfl

/-- The reference's term at an element. -/
theorem termR_at (p : Vec F S256x256 .f32) (px py : Vec F S256 .f32) (a b : Fin 256) :
    termR p px py (ix2 a b) = termE (FloatOps.hostUnary .log) FloatOps.hostDivf (p (ix2 a b)) (px (ix1 a)) (py (ix1 b)) := by
  have e1 := bcRows Cert.ReferenceIdeal.Gen.bcast_S256_S256x1_0 Cert.ReferenceIdeal.Gen.bcast_S256x1_S256x256_0_1 px a b
  have e2 := bcCols Cert.ReferenceIdeal.Gen.bcast_S256_S1x256_1 Cert.ReferenceIdeal.Gen.bcast_S1x256_S256x256_0_1 py a b
  unfold termE
  rw [← maskR_at p px py a b]
  conv_rhs => rw [← e1, ← e2]
  rfl

/-! ## The last step's pieces -/

/-- The loss from the mutual information and the entropies. -/
def finE (S E1 E2 : F .f32) : F .f32 :=
  Scalar.subf (Scalar.ofBits .f32 0x00000000#32) (Scalar.divf S (Scalar.addf (Scalar.sqrt (Scalar.mulf E1 E2)) (Scalar.ofBits .f32 0x322BCC77#32)))

/-- The kernel's mutual information is one sum of its terms. -/
theorem pay8_split (h : Vec F S512x128 .f32) : k3_pay8 h
    = multiReduction .add [1, 2] S1 (shapeCast S1x256x256 (termK (k3_pay5 h) (k3_pay6 h) (k3_pay7 h)) shapeCasts_S256x256_S1x256x256) 0x00000000#32
        reduces_S1x256x256_S1 (.inl rfl) rfl (ix1 0) := extract_one _

/-- The kernel's first entropy is zero less one sum of its terms. -/
theorem pay9_split (h : Vec F S512x128 .f32) : k3_pay9 h
    = Scalar.subf (Scalar.ofBits .f32 0x00000000#32) (multiReduction .add [1, 2] S1 (shapeCast S1x256x1 (entK S256x1 (k3_pay6 h)) shapeCasts_S256x1_S1x256x1) 0x00000000#32
        reduces_S1x256x1_S1 (.inl rfl) rfl (ix1 0)) := congrArg (Scalar.subf (Scalar.ofBits .f32 0x00000000#32)) (extract_one _)

/-- The kernel's result is the last step at its second entropy, zero less one sum of terms. -/
theorem pay4_split (v : FVec F S1x256 .f32) (S E : F .f32) : k3_pay4 v S E k3_pay10
    = finE S E (Scalar.subf (Scalar.ofBits .f32 0x00000000#32) (multiReduction .add [1, 2] S1 (shapeCast S1x1x256 (entK S1x256 v) shapeCasts_S1x256_S1x1x256) 0x00000000#32
        reduces_S1x1x256_S1 (.inl rfl) rfl (ix1 0))) := congrArg (fun z => finE S E (Scalar.subf (Scalar.ofBits .f32 0x00000000#32) z)) (extract_one _)

/-- The kernel's histogram is the sum of the partial ones. -/
theorem pay2_split (w : Vec F S32x512x128 .f32) : k3_pay2 w = multiReduction .add [0] S512x128 w 0x00000000#32 reduces_S32x512x128_S512x128 (.inl rfl) rfl := by
  unfold k3_pay2 k3_pay1
  rw [shapeCast_self, shapeCast_self]

/-- The kernel's joint probability at a pair of bins: the histogram's element of that number, divided by the number of elements. -/
theorem pay5_at (h : Vec F S512x128 .f32) (a b : Fin 256) :
    k3_pay5 h (ix2 a b) = FloatOps.divf (h (ix2 ⟨(256 * a.val + b.val) / 128, by omega⟩ ⟨(256 * a.val + b.val) % 128, by omega⟩)) (FloatOps.ofBits .f32 0x49800000#32) := by
  unfold k3_pay5
  refine congrArg (fun z => FloatOps.divf z (FloatOps.ofBits .f32 0x49800000#32)) ?_
  refine shapeCast_apply h shapeCasts_S512x128_S256x256 _ _ ?_
  rw [Shape.rowMajor_val_two, Shape.rowMajor_val_two]
  show (256 * a.val + b.val) / 128 * 128 + (256 * a.val + b.val) % 128 = a.val * 256 + b.val
  omega

/-- The kernel's probability of a bin of the first array is a row's sum. -/
theorem pay6_at (h : Vec F S512x128 .f32) (a : Fin 256) :
    k3_pay6 h (ix2 a (0 : Fin 1)) = multiReduction .add [1] S256 (k3_pay5 h) 0x00000000#32 reduces_S256x256_S256 (.inl rfl) rfl (ix1 a) := by
  unfold k3_pay6
  refine shapeCast_apply _ shapeCasts_S256_S256x1 _ _ ?_
  rw [Shape.rowMajor_val_two, Shape.rowMajor_val_one]
  show a.val = a.val * 1 + 0
  omega

/-- The kernel's probability of a bin of the second array is a column's sum. -/
theorem pay7_at (h : Vec F S512x128 .f32) (b : Fin 256) :
    k3_pay7 h (ix2 (0 : Fin 1) b) = multiReduction .add [0] S256 (k3_pay5 h) 0x00000000#32 reduces_S256x256_S256_2 (.inl rfl) rfl (ix1 b) := by
  unfold k3_pay7
  refine shapeCast_apply _ shapeCasts_S256_S1x256 _ _ ?_
  rw [Shape.rowMajor_val_two, Shape.rowMajor_val_one]
  show b.val = 0 * 256 + b.val
  omega

/-- The reference's loss, operation by operation. -/
theorem lossR_split (p : Vec F S256x256 .f32) (px py : Vec F S256 .f32) : lossR p px py ix0
    = FloatOps.hostNegf (FloatOps.hostDivf
        (Host.reduceAdd (termR p px py) (cst (F := F) 0x00000000#32) Cert.ReferenceIdeal.Gen.reducesTo_S256x256_S_d0_1 Cert.ReferenceIdeal.Gen.h_S_ ix0)
        (FloatOps.addf (FloatOps.hostUnary .sqrt (FloatOps.mulf (entR px ix0) (entR py ix0))) (FloatOps.ofBits .f32 0x322BCC77#32))) := rfl

end Generic

/-! ## The kernel's probabilities -/

/-- The number of elements. -/
theorem elements : (Ideal.ofBits .f32 0x49800000#32 : EReal) = ((1048576 : ℝ) : EReal) := by
  simp [Ideal.ofBits, Ideal.ieee, -EReal.coe_mul]
  norm_num

/-- The share of the elements that a count is. -/
def share (n : ℕ) : EReal := Ideal.div ((n : ℕ) : EReal) (Ideal.ofBits .f32 0x49800000#32)

/-- A share is a real number. -/
theorem share_real (n : ℕ) : share n = (((n : ℝ) * (1048576 : ℝ)⁻¹ : ℝ) : EReal) := by
  unfold share Ideal.div
  rw [elements, if_neg (by exact_mod_cast (by norm_num : (1048576 : ℝ) ≠ 0)), ← EReal.coe_inv, EReal.coe_mul]
  rfl

/-- The shares of counts add up to the share of their sum. -/
theorem share_sum (f : ℕ → ℕ) (N : ℕ) : ∑ k : Fin N, share (f k.val) = share (∑ k ∈ Finset.range N, f k) := by
  rw [Fin.sum_univ_eq_sum_range (fun k => share (f k)) N]
  induction N with
  | zero => rw [Finset.sum_range_zero, Finset.sum_range_zero, share_real]; simp
  | succ N ih =>
    rw [Finset.sum_range_succ, Finset.sum_range_succ, ih, share_real, share_real, share_real, ← EReal.coe_add, Nat.cast_add, add_mul]

/-- The histogram that the kernel sums. -/
def histK (x y : Vec Ideal S1024x1024 .f32) : Vec Ideal S512x128 .f32 := k3_pay2 (F := Ideal) (outV (F := Ideal) (wordsV x y))

/-- The kernel's histogram counts the elements of each pair of bins. -/
theorem hist_at (x y : Vec Ideal S1024x1024 .f32) (j : S512x128.Idx) : (histK x y j : EReal) = ((pairs x y (place j) : ℕ) : EReal) := by
  unfold histK
  rw [pay2_split, ← hist_total x y j]
  refine (Ideal.multiReduction_add_single _ _ _ _ _ _).trans ?_
  refine Finset.sum_congr rfl fun t _ => ?_
  refine congrArg (outV (F := Ideal) (wordsV x y)) (funext fun q => ?_)
  match q with
  | ⟨0, _⟩ => rfl
  | ⟨1, _⟩ => rfl
  | ⟨2, _⟩ => rfl

/-- The kernel's joint probabilities. -/
theorem joint_share (x y : Vec Ideal S1024x1024 .f32) (a b : Fin 256) :
    (k3_pay5 (F := Ideal) (histK x y) (ix2 a b) : EReal) = share (pairs x y (256 * a.val + b.val)) := by
  rw [pay5_at, hist_at]
  unfold share
  refine congrArg (fun n : ℕ => Ideal.div ((pairs x y n : ℕ) : EReal) (Ideal.ofBits .f32 0x49800000#32)) ?_
  unfold place
  show 128 * ((256 * a.val + b.val) / 128) + (256 * a.val + b.val) % 128 = 256 * a.val + b.val
  omega

/-- The kernel's probabilities of the first array. -/
theorem fst_share (x y : Vec Ideal S1024x1024 .f32) (a : Fin 256) :
    (k3_pay6 (F := Ideal) (histK x y) (ix2 a (0 : Fin 1)) : EReal) = share (∑ b ∈ Finset.range 256, pairs x y (256 * a.val + b)) := by
  rw [pay6_at, ← share_sum (fun b => pairs x y (256 * a.val + b))]
  refine (Ideal.multiReduction_add_single _ _ _ _ _ _).trans ?_
  refine Finset.sum_congr rfl fun b _ => ?_
  rw [← joint_share x y a b]
  refine congrArg (k3_pay5 (F := Ideal) (histK x y)) (funext fun q => ?_)
  match q with
  | ⟨0, _⟩ => rfl
  | ⟨1, _⟩ => rfl

/-- The kernel's probabilities of the second array. -/
theorem snd_share (x y : Vec Ideal S1024x1024 .f32) (b : Fin 256) :
    (k3_pay7 (F := Ideal) (histK x y) (ix2 (0 : Fin 1) b) : EReal) = share (∑ a ∈ Finset.range 256, pairs x y (256 * a + b.val)) := by
  rw [pay7_at, ← share_sum (fun a => pairs x y (256 * a + b.val))]
  refine (Ideal.multiReduction_add_single _ _ _ _ _ _).trans ?_
  refine Finset.sum_congr rfl fun a _ => ?_
  rw [← joint_share x y a b]
  refine congrArg (k3_pay5 (F := Ideal) (histK x y)) (funext fun q => ?_)
  match q with
  | ⟨0, _⟩ => rfl
  | ⟨1, _⟩ => rfl

/-! ## The reference's probabilities -/

/-- The reference's joint probability is the share of a pair of bins. -/
theorem pXY_share (x y : Vec Ideal S1024x1024 .f32) (a b : Fin 256) : (pXY x y (ix2 a b) : EReal) = share (pairs x y (256 * a.val + b.val)) := by
  unfold pXY share
  rw [← joint_at]
  exact congrArg (Ideal.div (histXY x y (ix2 a b))) (bc0 Cert.ReferenceIdeal.Gen.bcast_S_S256x256 (cst (F := Ideal) 0x49800000#32) (ix2 a b))

/-- The reference's probability of one array's bin is the share of the elements in it. -/
theorem p1_share (x : Vec Ideal S1024x1024 .f32) (a : Fin 256) :
    (p1 x (ix1 a) : EReal) = share (∑ r ∈ Finset.range 1024, ∑ c ∈ Finset.range 1024, if (binK x r c).toNat = a.val then 1 else 0) := by
  unfold p1 share
  rw [← one_at]
  exact congrArg (Ideal.div (hist1 x (ix1 a))) (bc0 Cert.ReferenceIdeal.Gen.bcast_S_S256 (cst (F := Ideal) 0x49800000#32) (ix1 a))

/-- The joint probabilities agree. -/
theorem joint_eq (x y : Vec Ideal S1024x1024 .f32) (a b : Fin 256) : k3_pay5 (F := Ideal) (histK x y) (ix2 a b) = pXY x y (ix2 a b) :=
  (joint_share x y a b).trans (pXY_share x y a b).symm

/-- The first array's probabilities agree. -/
theorem fst_eq (x y : Vec Ideal S1024x1024 .f32) (a : Fin 256) : k3_pay6 (F := Ideal) (histK x y) (ix2 a (0 : Fin 1)) = p1 x (ix1 a) := by
  refine (fst_share x y a).trans ?_
  rw [← count_fst]
  exact (p1_share x a).symm

/-- The second array's probabilities agree. -/
theorem snd_eq (x y : Vec Ideal S1024x1024 .f32) (b : Fin 256) : k3_pay7 (F := Ideal) (histK x y) (ix2 (0 : Fin 1) b) = p1 y (ix1 b) := by
  refine (snd_share x y b).trans ?_
  rw [← count_snd x y b.val b.isLt]
  exact (p1_share y b).symm

/-! ## The sums -/

/-- The host's logarithm is the kernel's at ideal values. -/
theorem host_log : (FloatOps.hostUnary .log : Ideal .f32 → Ideal .f32) = FloatOps.log := rfl
/-- The host's quotient is the kernel's at ideal values. -/
theorem host_quot : (FloatOps.hostDivf : Ideal .f32 → Ideal .f32 → Ideal .f32) = FloatOps.divf := rfl

/-- A reduction of everything to one element, whatever the shape, is the sum over the elements. -/
theorem sum_all {s s' t : Shape} {axes : List (Fin s'.rank)} (f : Vec Ideal s .f32) (hc : s.ShapeCasts s') (h : s'.Reduces axes t) (ht : ∀ b, t.size b = 1) (h1 : FKind.Formats .f32) (h2 : (0x00000000#32 : BitVec 32) = FKind.add.neutral .f32 h1) (j : t.Idx) :
    (multiReduction (F := Ideal) (φ := .f32) .add axes t (shapeCast s' f hc) 0x00000000#32 h h1 h2 j : EReal) = ∑ i : s.Idx, (f i : EReal) :=
  (Ideal.multiReduction_add_total _ _ h ht h1 h2 j).trans (Equiv.sum_comp (Shape.reshapeEquiv hc) f)

/-- A one-element vector's only extent is one. -/
theorem unit_S1 (b : Fin S1.rank) : S1.size b = 1 := match b with | ⟨0, _⟩ => rfl

/-- The kernel's mutual information is the reference's sum. -/
theorem mutual_eq (x y : Vec Ideal S1024x1024 .f32) :
    (k3_pay8 (F := Ideal) (histK x y) : EReal) = ∑ i : S256x256.Idx, (termR (pXY x y) (p1 x) (p1 y) i : EReal) := by
  rw [pay8_split]
  refine (sum_all _ _ _ unit_S1 _ _ _).trans ?_
  refine Finset.sum_congr rfl fun i _ => ?_
  have e : ∀ a b : Fin 256, termK (k3_pay5 (histK x y)) (k3_pay6 (histK x y)) (k3_pay7 (histK x y)) (ix2 a b) = termR (pXY x y) (p1 x) (p1 y) (ix2 a b) := fun a b => by
    rw [termK_at, termR_at, host_log, host_quot, joint_eq, fst_eq, snd_eq]
  exact (congrArg _ (eq_ix2 i)).trans ((e (i 0) (i 1)).trans (congrArg _ (eq_ix2 i)).symm)

/-- The reference's entropy is a sum over the bins. -/
theorem entR_sum (p : Vec Ideal S256 .f32) : (entR p ix0 : EReal) = -∑ a : Fin 256, (entE (F := Ideal) FloatOps.log (p (ix1 a)) : EReal) := by
  unfold entR
  refine congrArg (fun z : EReal => -z) ?_
  rw [hostReduceAdd_apply, Ideal.hostReduceAdd_total _ (fun b => b.elim0)]
  rw [show (cst (F := Ideal) 0x00000000#32 (Shape.Idx.first Cert.ReferenceIdeal.Gen.h_S_) : EReal) = 0 from Ideal.ofBits_zero_f32, zero_add]
  rw [← Equiv.sum_comp (idxEquiv1 (n := 256)).symm]
  refine Finset.sum_congr rfl fun a _ => ?_
  have e := bc0 Cert.ReferenceIdeal.Gen.bcast_S_S256 (cst (F := Ideal) 0x322BCC77#32) (ix1 a)
  exact congrArg (fun z : Ideal .f32 => FloatOps.mulf (p (ix1 a)) (FloatOps.log (FloatOps.addf (p (ix1 a)) z))) e

/-- The kernel's entropy of the first array is the reference's. -/
theorem ent_fst (x y : Vec Ideal S1024x1024 .f32) : (k3_pay9 (F := Ideal) (histK x y) : EReal) = entR (p1 x) ix0 := by
  rw [pay9_split, entR_sum]
  have e : (multiReduction (F := Ideal) (φ := .f32) .add [1, 2] S1 (shapeCast S1x256x1 (entK S256x1 (k3_pay6 (histK x y))) shapeCasts_S256x1_S1x256x1) 0x00000000#32
      reduces_S1x256x1_S1 (.inl rfl) rfl (ix1 0) : EReal) = ∑ a : Fin 256, (entE (F := Ideal) FloatOps.log (p1 x (ix1 a)) : EReal) := by
    refine (sum_all _ _ _ unit_S1 _ _ _).trans ((sum_idx2 _).trans (Finset.sum_congr rfl fun a _ => ?_))
    rw [Fin.sum_univ_one, entK_at, fst_eq]
  rw [← e]
  exact Ideal.subf_zero_eq_hostNegf _

/-- The kernel's entropy of the second array is the reference's. -/
theorem ent_snd (x y : Vec Ideal S1024x1024 .f32) :
    (Scalar.subf (F := Ideal) (Scalar.ofBits .f32 0x00000000#32) (multiReduction (F := Ideal) (φ := .f32) .add [1, 2] S1
      (shapeCast S1x1x256 (entK S1x256 (k3_pay7 (histK x y))) shapeCasts_S1x256_S1x1x256) 0x00000000#32 reduces_S1x1x256_S1 (.inl rfl) rfl (ix1 0)) : EReal)
      = entR (p1 y) ix0 := by
  rw [entR_sum]
  have e : (multiReduction (F := Ideal) (φ := .f32) .add [1, 2] S1 (shapeCast S1x1x256 (entK S1x256 (k3_pay7 (histK x y))) shapeCasts_S1x256_S1x1x256) 0x00000000#32
      reduces_S1x1x256_S1 (.inl rfl) rfl (ix1 0) : EReal) = ∑ a : Fin 256, (entE (F := Ideal) FloatOps.log (p1 y (ix1 a)) : EReal) := by
    refine (sum_all _ _ _ unit_S1 _ _ _).trans ((sum_idx2 _).trans ?_)
    rw [Fin.sum_univ_one]
    refine Finset.sum_congr rfl fun a _ => ?_
    rw [entK_at, snd_eq]
  rw [← e]
  exact Ideal.subf_zero_eq_hostNegf _

/-! ## The loss -/

/-- The last step, in the reference's operations. -/
theorem finE_host (S E1 E2 : Ideal .f32) : finE (F := Ideal) S E1 E2
    = FloatOps.hostNegf (FloatOps.hostDivf S (FloatOps.addf (FloatOps.hostUnary .sqrt (FloatOps.mulf E1 E2)) (FloatOps.ofBits .f32 0x322BCC77#32))) :=
  Ideal.subf_zero_eq_hostNegf _

/-- The reference's loss from its mutual information and its entropies. -/
theorem lossR_at (p : Vec Ideal S256x256 .f32) (px py : Vec Ideal S256 .f32) : lossR p px py ix0
    = FloatOps.hostNegf (FloatOps.hostDivf (show Ideal .f32 from (∑ i : S256x256.Idx, (termR p px py i : EReal)))
        (FloatOps.addf (FloatOps.hostUnary .sqrt (FloatOps.mulf (entR px ix0) (entR py ix0))) (FloatOps.ofBits .f32 0x322BCC77#32))) := by
  have e : (Host.reduceAdd (termR p px py) (cst (F := Ideal) 0x00000000#32) Cert.ReferenceIdeal.Gen.reducesTo_S256x256_S_d0_1 Cert.ReferenceIdeal.Gen.h_S_ ix0 : Ideal .f32)
      = (show Ideal .f32 from (∑ i : S256x256.Idx, (termR p px py i : EReal))) := by
    rw [hostReduceAdd_apply, Ideal.hostReduceAdd_total _ (fun b => b.elim0)]
    rw [show (cst (F := Ideal) 0x00000000#32 (Shape.Idx.first Cert.ReferenceIdeal.Gen.h_S_) : EReal) = 0 from Ideal.ofBits_zero_f32, zero_add]
  rw [← e]
  exact lossR_split p px py

/-- **The kernel's result is the reference's.** -/
theorem loss_eq (x y : Vec Ideal S1024x1024 .f32) : outS (F := Ideal) x y = refV x y := by
  funext i
  rw [eq_ix0 i]
  unfold refV outS miVal
  rw [lossR_at, pay4_split, finE_host]
  refine congrArg FloatOps.hostNegf ?_
  refine congrArg₂ FloatOps.hostDivf (mutual_eq x y) ?_
  refine congrArg (fun z : Ideal .f32 => FloatOps.addf (FloatOps.hostUnary .sqrt z) (FloatOps.ofBits .f32 0x322BCC77#32)) ?_
  exact congrArg₂ FloatOps.mulf (ent_fst x y) (ent_snd x y)

end Cert.Proof.IdealRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Run
public import proofs.«01_k».proof.Proof.Ideal.Loss
public import proofs.«01_k».proof.Proof.Bits.Run
public import Idealize.ShloMosaic.Adequacy
public import Idealize.ShloMosaic.Init

@[expose] public section

noncomputable section

namespace Cert.Proof

open Idealize.ShloMosaic Idealize.SL.Sem Cert.Kernel

/-- The kernel, at bit patterns: it runs to its end with its arguments unchanged and every semaphore at zero. -/
theorem frame_kernel : Cert.quiescent_Kernel := fun m ρ _ =>
  (θ_run Cert.Kernel.defs _ _).mono (fun _ h => ⟨fun c => ⟨(h.1 c).1, (h.1 c).2.1⟩, h.2⟩) (BitsRun.run_main (F := Bits) m ρ)

/-- The kernel, at ideal values: the same. -/
theorem frame_kernelIdeal : Cert.quiescent_KernelIdeal := fun m ρ _ =>
  (θ_run Cert.KernelIdeal.defs _ _).mono (fun _ h => ⟨fun c => ⟨(h.1 c).1, (h.1 c).2.1⟩, h.2⟩) (IdealRun.run_main (F := Ideal) m ρ)

/-- The reference, at ideal values: it runs to its end with its arguments unchanged; it has no semaphore. -/
theorem frame_referenceIdeal : Cert.quiescent_ReferenceIdeal := fun m ρ _ =>
  (θ_run Cert.ReferenceIdeal.defs _ _).mono (fun _ h => ⟨fun c => (h c).2, funext fun ⟨_, x⟩ => nomatch x⟩) (Cert.ReferenceIdeal.Value.run (F := Ideal) m ρ)

/-- The kernel's result is the reference's, at ideal values, from equal arguments. -/
theorem value : Cert.algebraic_KernelIdeal_ReferenceIdeal := fun m g m' g' _ hm =>
  ⟨fun c => IdealRun.outS (F := Ideal) (IdealRun.xIn m c) (IdealRun.yIn m c),
    (θ_run Cert.KernelIdeal.defs _ _).mono (fun _ h c => ⟨(h.1 c).2.2, (h.1 c).1, (h.1 c).2.1⟩) (IdealRun.run_main (F := Ideal) m g),
    (θ_run Cert.ReferenceIdeal.defs _ _).mono (fun _ h c => ⟨(h c).1.trans ((RefVal.res_eq m' c).trans
      ((congrArg₂ RefVal.refV (hm c).1 (hm c).2).trans (IdealRun.loss_eq (IdealRun.xIn m c) (IdealRun.yIn m c)).symm)), (h c).2⟩)
      (Cert.ReferenceIdeal.Value.run (F := Ideal) m' g')⟩

/-- Everything that the certificate claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
